-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 256, 512]⟩ ⟨3, ![2, 256, 512]⟩ (Layout.meshBlock [2, 2, 4] ![[1], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![256, 256]⟩ ⟨2, ![256, 512]⟩ (Layout.meshBlock [2, 2, 4] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x256x512 : Shape := ⟨3, ![1, 256, 512]⟩
abbrev S256x256 : Shape := ⟨2, ![256, 256]⟩
abbrev S2 : Shape := ⟨1, ![2]⟩
abbrev S_ : Shape := ⟨0, ![]⟩
abbrev S1 : Shape := ⟨1, ![1]⟩
abbrev S128x256 : Shape := ⟨2, ![128, 256]⟩
abbrev S1x128x256 : Shape := ⟨3, ![1, 128, 256]⟩
abbrev S1x256x256 : Shape := ⟨3, ![1, 256, 256]⟩

abbrev nBuf : Space → Nat
  | .hbm => 2
  | .vmem => 5
  | .smem => 0
  | _ => 0

abbrev bufTy : (tb : Table) → Fin (tcTables nBuf tb) → BufTy
  | .hbm, ⟨0, _⟩ => ⟨S1x256x512, .f32⟩
  | .hbm, ⟨1, _⟩ => ⟨S256x256, .bf16⟩
  | .local _ .vmem, ⟨0, _⟩ => ⟨S256x256, .bf16⟩
  | .local _ .vmem, ⟨1, _⟩ => ⟨S256x256, .f32⟩
  | .local _ .vmem, ⟨2, _⟩ => ⟨S256x256, .f32⟩
  | .local _ .vmem, ⟨3, _⟩ => ⟨S256x256, .bf16⟩
  | .local _ .vmem, ⟨4, _⟩ => ⟨S256x256, .bf16⟩
  | _, _ => ⟨S1x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  (ofTc nBuf bufTy 1 8 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_sem0_0 : DmaSem sig := 0
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_4 : BitVec 32 := 8#32
  let v11 : BitVec 32 := Scalar.muli v2 c8_i32_4
  let v12 : BitVec 32 := Scalar.addi c0_i32 v11
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_5 : BitVec 32 := 4#32
  let v13 : BitVec 32 := Scalar.muli v9 c4_i32_5
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v15 : BitVec 32 := Scalar.muli v8 c1_i32_6
  let v16 : BitVec 32 := Scalar.addi v14 v15
  v16.toNat
def k0_off1 (d0 : Dev nD) : Fin 3 → Nat :=
  let c0_i32_7 : BitVec 32 := 0#32
  let c0_i32_11 : BitVec 32 := 0#32
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c256_i32 : BitVec 32 := 256#32
  let v17 : BitVec 32 := Scalar.muli v9 c256_i32
  ![0, 0, v17.toNat]
def k0_off2 (d0 : Dev nD) : Fin 3 → Nat :=
  let c0_i32_13 : BitVec 32 := 0#32
  let c128_i32_16 : BitVec 32 := 128#32
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c256_i32_12 : BitVec 32 := 256#32
  let v23 : BitVec 32 := Scalar.muli v9 c256_i32_12
  ![0, 128, v23.toNat]
def k0_dev2 (d0 : Dev nD) : Nat :=
  let c0_i32_29 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_28 : BitVec 32 := 8#32
  let v39 : BitVec 32 := Scalar.muli v2 c8_i32_28
  let v40 : BitVec 32 := Scalar.addi c0_i32_29 v39
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_30 : BitVec 32 := 4#32
  let v41 : BitVec 32 := Scalar.muli v9 c4_i32_30
  let v42 : BitVec 32 := Scalar.addi v40 v41
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_31 : BitVec 32 := 1#32
  let v43 : BitVec 32 := Scalar.muli v8 c1_i32_31
  let v44 : BitVec 32 := Scalar.addi v42 v43
  v44.toNat
def k0_dev3 (d0 : Dev nD) : Nat :=
  let c0_i32_47 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_46 : BitVec 32 := 8#32
  let v61 : BitVec 32 := Scalar.muli v2 c8_i32_46
  let v62 : BitVec 32 := Scalar.addi c0_i32_47 v61
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_48 : BitVec 32 := 4#32
  let v63 : BitVec 32 := Scalar.muli v9 c4_i32_48
  let v64 : BitVec 32 := Scalar.addi v62 v63
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_49 : BitVec 32 := 1#32
  let v65 : BitVec 32 := Scalar.muli v8 c1_i32_49
  let v66 : BitVec 32 := Scalar.addi v64 v65
  v66.toNat
def k0_off3 (d0 : Dev nD) : Fin 3 → Nat :=
  let c0_i32_55 : BitVec 32 := 0#32
  let c0_i32_56 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c256_i32_54 : BitVec 32 := 256#32
  let v73 : BitVec 32 := Scalar.muli v5 c256_i32_54
  ![0, 0, v73.toNat]
abbrev stage0_0 : Fin 1 → Memref sig .tc .vmem S256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2x256x512 : Shape := ⟨3, ![2, 256, 512]⟩
abbrev S_ : Shape := ⟨0, ![]⟩
abbrev S256x512 : Shape := ⟨2, ![256, 512]⟩

abbrev nBuf : Space → Nat
  | .hbm => 4
  | .vmem => 0
  | .smem => 0
  | _ => 0

abbrev bufTy : (tb : Table) → Fin (tcTables nBuf tb) → BufTy
  | .hbm, ⟨0, _⟩ => ⟨S2x256x512, .f32⟩
  | .hbm, ⟨1, _⟩ => ⟨S_, .f32⟩
  | .hbm, ⟨2, _⟩ => ⟨S256x512, .f32⟩
  | .hbm, ⟨3, _⟩ => ⟨S256x512, .bf16⟩
  | _, _ => ⟨S2x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Idl.Halves.lean ====
/-
The two halves of a 256 × 256 block: its rows 0–127 and its rows 128–255, which are the two chunks the
kernel moves one after the other.  A block owned whole is its two halves owned, and back.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Memref
public import Idealize.ShloMosaic.Lib.Tactic

@[expose] public section

noncomputable section

namespace Cert.IdlRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The duty names of the protocol below: one duty per semaphore. -/
abbrev UB : Type := URounds (GSem nD τ sig) Unit
abbrev UU : Type := UR sig nD τ × UB

local notation "𝕄" => MT nD τ sig Unit (Elt F) ℕ UU ℕ

/-- Rows 0–127 of a 256 × 256 block. -/
abbrev rA : Rect S256x256 := Rect.unit (s := S256x256) ![0, 0] S128x256.size inb_S256x256_S128x256_0_0
/-- Rows 128–255 of a 256 × 256 block. -/
abbrev rB : Rect S256x256 := Rect.unit (s := S256x256) ![128, 0] S128x256.size inb_S256x256_S128x256_128_0

abbrev top {sp : Space} {e : EltTy} (M : Memref sig .tc sp S256x256 e) : Memref sig .tc sp S128x256 e := M.slice rA (fun _ => rfl)
abbrev bot {sp : Space} {e : EltTy} (M : Memref sig .tc sp S256x256 e) : Memref sig .tc sp S128x256 e := M.slice rB (fun _ => rfl)

/-- The row of a 256 × 256 block within its half, with the same column. -/
def fold (j : S256x256.Idx) : S128x256.Idx := fun a =>
  ⟨(j a).val % S128x256.size a, Nat.mod_lt _ (by revert a; decide)⟩

/-- The block whose upper half is `A` and whose lower half is `B`. -/
def glue {α : Type} (A B : S128x256.Idx → α) : S256x256.Idx → α := fun j =>
  if (j 0).val < 128 then A (fold j) else B (fold j)

/-- The place in the half of an index that the upper half puts there is the index. -/
theorem fold_up (i : S128x256.Idx) : fold (rA.emb i) = i := by
  funext a
  apply Fin.ext
  have h := (i a).isLt
  have e : ((rA.emb i) a).val = (i a).val := by
    rw [Rect.emb_apply]; fin_cases a <;> simp
  show ((rA.emb i) a).val % S128x256.size a = _
  rw [e]; exact Nat.mod_eq_of_lt h

/-- The place in the half of an index that the lower half puts there is the index. -/
theorem fold_down (i : S128x256.Idx) : fold (rB.emb i) = i := by
  funext a
  apply Fin.ext
  have h := (i a).isLt
  show ((rB.emb i) a).val % S128x256.size a = _
  rw [Rect.emb_apply]
  fin_cases a
  · have h0 : (i 0).val < 128 := h
    show (128 + 1 * (i 0).val) % 128 = (i 0).val
    omega
  · have h0 : (i 1).val < 256 := h
    show (0 + 1 * (i 1).val) % 256 = (i 1).val
    omega

/-- The upper half of two halves put together is the first. -/
theorem glue_up {α : Type} (A B : S128x256.Idx → α) : (fun i => glue A B (rA.emb i)) = A := by
  funext i
  have h : ((rA.emb i) 0).val < 128 := by
    rw [Rect.emb_apply]
    have h0 : (i 0).val < 128 := (i 0).isLt
    show 0 + 1 * (i 0).val < 128
    omega
  unfold glue
  rw [if_pos h, fold_up]

/-- The lower half of two halves put together is the second. -/
theorem glue_down {α : Type} (A B : S128x256.Idx → α) : (fun i => glue A B (rB.emb i)) = B := by
  funext i
  have h : ¬ ((rB.emb i) 0).val < 128 := by
    rw [Rect.emb_apply]
    show ¬ 128 + 1 * (i 0).val < 128
    omega
  unfold glue
  rw [if_neg h, fold_down]

/-- The two halves, indexed. -/
def halfR : Bool → Rect S256x256
  | false => rA
  | true => rB

/-- A half takes its rows and columns one after another. -/
theorem halfR_stride (t : Bool) : ∀ a, (halfR t).stride a = 1 := by cases t <;> exact fun _ => rfl

/-- The upper and the lower half have no element in common. -/
theorem halves_apart : Disjoint rA.set rB.set := by
  rw [Finset.disjoint_left]
  intro j ha hb
  have h1 := ((Rect.mem_set_unit).mp ha 0).2
  have h2 := ((Rect.mem_set_unit).mp hb 0).1
  change (j 0).val < 0 + 128 at h1
  change 128 ≤ (j 0).val at h2
  omega

/-- Two different halves have no element in common. -/
theorem halfR_disjoint (t t' : Bool) (h : t ≠ t') : Disjoint (halfR t).set (halfR t').set := by
  cases t <;> cases t'
  · exact absurd rfl h
  · exact halves_apart
  · exact halves_apart.symm
  · exact absurd rfl h

/-- The two halves make up the block. -/
theorem halfR_cover : (Finset.univ : Finset Bool).biUnion (fun t => (halfR t).set) = Finset.univ := by
  refine Finset.eq_univ_iff_forall.mpr fun j => ?_
  have h0 : (j 0).val < 256 := (j 0).isLt
  have h1 : (j 1).val < 256 := (j 1).isLt
  by_cases h : (j 0).val < 128
  · refine Finset.mem_biUnion.mpr ⟨false, Finset.mem_univ _, (Rect.mem_set_unit (inb := inb_S256x256_S128x256_0_0)).mpr fun a => ?_⟩
    fin_cases a
    · exact ⟨Nat.zero_le _, by show (j 0).val < 0 + 128; omega⟩
    · exact ⟨Nat.zero_le _, by show (j 1).val < 0 + 256; omega⟩
  · refine Finset.mem_biUnion.mpr ⟨true, Finset.mem_univ _, (Rect.mem_set_unit (inb := inb_S256x256_S128x256_128_0)).mpr fun a => ?_⟩
    fin_cases a
    · exact ⟨by show 128 ≤ (j 0).val; omega, by show (j 0).val < 128 + 128; omega⟩
    · exact ⟨Nat.zero_le _, by show (j 1).val < 0 + 256; omega⟩

omit [FloatOps F] in
/-- A conjunction over the two halves is the upper one's beside the lower one's. -/
theorem bigSep_two (Φ : Bool → sProp 𝕄) : bigSep Finset.univ Φ = iprop(Φ false ∗ Φ true) := by
  rw [bigSep_univ_eq_bigSepL [false, true] (by decide) (by decide), bigSepL_cons_cons, bigSepL_singleton]
  rfl

section Owned

variable (c : Dev nD) {sp : Space} {e : EltTy} (M : Memref sig .tc sp S256x256 e) (q : PosShare TreeShare)

/-- A block owned at `X` is its two halves owned at the two halves of `X`. -/
theorem owns_split (X : S256x256.Idx → Elt F e) :
    (owns (c : Thread nD τ) M q X : sProp 𝕄)
      ⊢ iprop(owns (c : Thread nD τ) (top M) q (fun j => X (rA.emb j)) ∗ owns (c : Thread nD τ) (bot M) q (fun j => X (rB.emb j))) := by
  refine (owns_rects (c : Thread nD τ) M q halfR halfR_stride halfR_disjoint halfR_cover X).trans ?_
  rw [bigSep_two]
  exact .rfl

/-- The two halves owned at `A` and `B` are the block owned at the two put together. -/
theorem owns_glue (A B : S128x256.Idx → Elt F e) :
    iprop(owns (c : Thread nD τ) (top M) q A ∗ owns (c : Thread nD τ) (bot M) q B)
      ⊢ (owns (c : Thread nD τ) M q (glue A B) : sProp 𝕄) := by
  refine .trans ?_ (owns_of_rects (c : Thread nD τ) M q halfR halfR_stride halfR_disjoint halfR_cover (glue A B))
  rw [bigSep_two]
  exact Entails.of_eq (congrArg₂ (fun X Y => iprop(owns (c : Thread nD τ) (top M) q X ∗ owns (c : Thread nD τ) (bot M) q Y) :
    (S128x256.Idx → Elt F e) → (S128x256.Idx → Elt F e) → sProp 𝕄) (glue_up A B).symm (glue_down A B).symm)

end Owned

end Cert.IdlRun
-- ==== Proof.Idl.Schedule.lean ====
/-
The protocol of the reduce-scatter, semaphore by semaphore.

A device `c` and its peer `pr c` differ in the mesh's y coordinate.  Each device has eight semaphores, each waited
for once, by its own device, for one payment:

  0  the barrier: one unit from the peer, which hands over the peer's receive buffer, half by half;
  1  the copy of the first 128 rows of the columns kept for the peer, from the argument to `pf`;
  2  the copy of the last 128 rows of them;
  3  the copy of the columns the device keeps, from the argument to `mine`;
  4  the sending side of the transfer of the first 128 rows: the upper half of the send buffer back;
  5  the sending side of the transfer of the last 128 rows: the lower half of the send buffer back;
  6  the landing of the peer's first 128 rows: the upper half of the receive buffer at the peer's values;
  7  the landing of the peer's last 128 rows: the lower half of the receive buffer at the peer's values.

The copies 1–3 also hand back the share of the argument they read.
-/
module

public import proofs.«01_k».proof.Proof.Idl.Halves

@[expose] public section

noncomputable section

namespace Cert.IdlRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The mesh -/

set_option backward.proofsInPublic true in
/-- The device with the other y coordinate. -/
def pr (c : Dev nD) : Dev nD := ⟨8 * (c.val / 8) + c.val % 4 + 4 - 4 * (c.val / 4 % 2), by have h : c.val < 16 := c.isLt; show _ < 16; omega⟩

/-- The peer of the peer is the device. -/
theorem pr_pr (c : Dev nD) : pr (pr c) = c := by revert c; decide

/-- The device that the barrier's signal names is the peer. -/
theorem dev1_eq (c : Dev nD) : (⟨k0_dev1 c, k0_dev1_lt c⟩ : Dev nD) = pr c := Fin.ext (k0_dev1_eq c)
/-- The device that the first transfer names is the peer. -/
theorem dev2_eq (c : Dev nD) : (⟨k0_dev2 c, k0_dev2_lt c⟩ : Dev nD) = pr c := Fin.ext (k0_dev2_eq c)
/-- The device that the second transfer names is the peer. -/
theorem dev3_eq (c : Dev nD) : (⟨k0_dev3 c, k0_dev3_lt c⟩ : Dev nD) = pr c := Fin.ext (k0_dev3_eq c)

def swap : Dev nD ≃ Dev nD := ⟨pr, pr, pr_pr, pr_pr⟩

/-! ## The buffers -/

abbrev argM : Memref sig .tc .hbm S1x256x512 .f32 := Memref.whole main_arg0
abbrev outM : Memref sig .tc .vmem S256x256 .bf16 := Memref.whole cc0_stg0_0
abbrev pfM : Memref sig .tc .vmem S256x256 .f32 := Memref.whole cc0_scratch0
abbrev mineM : Memref sig .tc .vmem S256x256 .f32 := Memref.whole cc0_scratch1
abbrev sndM : Memref sig .tc .vmem S256x256 .bf16 := Memref.whole cc0_scratch2
abbrev rcvM : Memref sig .tc .vmem S256x256 .bf16 := Memref.whole cc0_scratch3

/-- The peer's columns of the argument, rows 0–127. -/
abbrev src0 (c : Dev nD) : Memref sig .tc .hbm S128x256 .f32 :=
  (argM.slice (Rect.unit (s := S1x256x512) (k0_off1 c) S1x128x256.size (k0_off1_inb c)) (fun _ => rfl)).squeeze S128x256 squeezes_S1x128x256_S128x256
/-- The peer's columns of the argument, rows 128–255. -/
abbrev src1 (c : Dev nD) : Memref sig .tc .hbm S128x256 .f32 :=
  (argM.slice (Rect.unit (s := S1x256x512) (k0_off2 c) S1x128x256.size (k0_off2_inb c)) (fun _ => rfl)).squeeze S128x256 squeezes_S1x128x256_S128x256
/-- The device's own columns of the argument. -/
abbrev srcM (c : Dev nD) : Memref sig .tc .hbm S256x256 .f32 :=
  (argM.slice (Rect.unit (s := S1x256x512) (k0_off3 c) S1x256x256.size (k0_off3_inb c)) (fun _ => rfl)).squeeze S256x256 squeezes_S1x256x256_S256x256

/-! ## The contents -/

/-- The argument on device `c`. -/
def arg (c : Dev nD) : Buf (Elt F) ((c : Thread nD τ).loc main_arg0) := m ((c : Thread nD τ).loc main_arg0)

/-- What each of the three copies of device `c` reads of its argument. -/
def xp0 (c : Dev nD) : S128x256.Idx → Elt F .f32 := (src0 c).view.read (Elt F) (arg m c)
def xp1 (c : Dev nD) : S128x256.Idx → Elt F .f32 := (src1 c).view.read (Elt F) (arg m c)
def xm (c : Dev nD) : S256x256.Idx → Elt F .f32 := (srcM c).view.read (Elt F) (arg m c)

/-- What device `c` sends: the two halves of the peer's columns, rounded. -/
def sv0 (c : Dev nD) : S128x256.Idx → Elt F .bf16 := k0_pay1 (xp0 m c)
def sv1 (c : Dev nD) : S128x256.Idx → Elt F .bf16 := k0_pay3 (k0_pay2 (xp1 m c))

/-- What device `c` stores: in each half its own columns plus what the peer sent. -/
def res0 (c : Dev nD) : S128x256.Idx → Elt F .bf16 := k0_pay4 (fun j => xm m c (rA.emb j)) (sv0 m (pr c))
def res1 (c : Dev nD) : S128x256.Idx → Elt F .bf16 := k0_pay5 (fun j => xm m c (rB.emb j)) (sv1 m (pr c))
def outAt (c : Dev nD) : S256x256.Idx → Elt F .bf16 := glue (res0 m c) (res1 m c)

/-! ## The cells -/

abbrev barS : Sem sig := (SemArray.scalar (sig.barrier 0 rfl) : Sems sig S_).sem
abbrev cp0S : DmaSem sig := ((cc0_scratch4.slice (Rect.unit (s := S2) ![0] S1.size inb_S2_S1_0)).squeeze S_ squeezes_S1_S_).sem
abbrev cp1S : DmaSem sig := ((cc0_scratch4.slice (Rect.unit (s := S2) ![1] S1.size inb_S2_S1_1)).squeeze S_ squeezes_S1_S_).sem
abbrev cpMS : DmaSem sig := cc0_scratch5.sem
abbrev snd0S : DmaSem sig := ((cc0_scratch6.slice (Rect.unit (s := S2) ![0] S1.size inb_S2_S1_0)).squeeze S_ squeezes_S1_S_).sem
abbrev snd1S : DmaSem sig := ((cc0_scratch6.slice (Rect.unit (s := S2) ![1] S1.size inb_S2_S1_1)).squeeze S_ squeezes_S1_S_).sem
abbrev rcv0S : DmaSem sig := ((cc0_scratch7.slice (Rect.unit (s := S2) ![0] S1.size inb_S2_S1_0)).squeeze S_ squeezes_S1_S_).sem
abbrev rcv1S : DmaSem sig := ((cc0_scratch7.slice (Rect.unit (s := S2) ![1] S1.size inb_S2_S1_1)).squeeze S_ squeezes_S1_S_).sem

/-- The eight semaphores of a device, numbered as in the header. -/
def csem : Fin 8 → SemLoc sig
  | 0 => .reg barS | 1 => .dma cp0S | 2 => .dma cp1S | 3 => .dma cpMS
  | 4 => .dma snd0S | 5 => .dma snd1S | 6 => .dma rcv0S | 7 => .dma rcv1S

abbrev cell (c : Dev nD) (k : Fin 8) : GSem nD τ sig := ((c : Thread nD τ), csem k)

/-- The eight semaphores are different. -/
theorem csem_injective : Function.Injective csem := by
  intro k k' h; revert k k'; decide

/-- A cell tells its device and its number. -/
theorem cell_injective {c c' : Dev nD} {k k' : Fin 8} (h : cell c k = cell c' k') : c = c' ∧ k = k' :=
  ⟨congrArg (fun g : GSem nD τ sig => g.1.1) h, csem_injective (congrArg Prod.snd h)⟩

/-- The number of a semaphore among the eight. -/
def kindOf (s : SemLoc sig) : Option (Fin 8) := (List.finRange 8).find? fun k => decide (csem k = s)

/-- The number of the semaphore numbered `k` is `k`. -/
theorem kindOf_csem (k : Fin 8) : kindOf (csem k) = some k := by revert k; decide

/-! ## The schedule -/

/-- The payment of each cell's one duty. -/
def amt : Fin 8 → ℕ
  | 0 => 1
  | 1 => (top pfM).view.dmaCredit | 2 => (bot pfM).view.dmaCredit | 3 => mineM.view.dmaCredit
  | 4 => (top rcvM).view.dmaCredit | 5 => (bot rcvM).view.dmaCredit | 6 => (top rcvM).view.dmaCredit | 7 => (bot rcvM).view.dmaCredit

/-- Every payment is of at least one unit. -/
theorem amt_pos (k : Fin 8) : 0 < amt k := by
  fin_cases k
  · exact Nat.one_pos
  all_goals exact View.dmaCredit_pos _ (by decide)

/-- A memref of device `c` owned whole at `X`. -/
abbrev own1 (c : Dev nD) {sp : Space} {s : Shape} {e : EltTy} (M : Memref sig .tc sp s e) (X : s.Idx → Elt F e) : sProp 𝕄 :=
  owns (c : Thread nD τ) M fullShare X

/-- A memref of device `c` owned whole at some contents. -/
def anyOf (c : Dev nD) {sp : Space} {s : Shape} {e : EltTy} (M : Memref sig .tc sp s e) : sProp 𝕄 := iprop(∃ X, own1 c M X)

/-- What device `c` holds of its argument while a copy of it is under way. -/
def lent0 (c : Dev nD) : sProp 𝕄 := (src0 c).view.loc (c : Thread nD τ) ↦[(src0 c).view.set]{fullShare.left} arg m c
def lent1 (c : Dev nD) : sProp 𝕄 := (src1 c).view.loc (c : Thread nD τ) ↦[(src1 c).view.set]{fullShare.right} arg m c
def lentM (c : Dev nD) : sProp 𝕄 := (srcM c).view.loc (c : Thread nD τ) ↦[(srcM c).view.set]{fullShare.left} arg m c

/-- What the payment of device `c`'s cell `k` hands over. -/
def pay (c : Dev nD) : Fin 8 → sProp 𝕄
  | 0 => iprop(anyOf (pr c) (top rcvM) ∗ anyOf (pr c) (bot rcvM))
  | 1 => iprop(own1 c (top pfM) (xp0 m c) ∗ lent0 m c)
  | 2 => iprop(own1 c (bot pfM) (xp1 m c) ∗ lent1 m c)
  | 3 => iprop(own1 c mineM (xm m c) ∗ lentM m c)
  | 4 => own1 c (top sndM) (sv0 m c)
  | 5 => own1 c (bot sndM) (sv1 m c)
  | 6 => own1 c (top rcvM) (sv0 m (pr c))
  | 7 => own1 c (bot rcvM) (sv1 m (pr c))

instance pay_storable (c : Dev nD) (k : Fin 8) : BI.Storable (upEmb : UEmb _ 𝕄) (pay m c k) := by
  fin_cases k <;> dsimp only [pay, lent0, lent1, lentM, anyOf, own1] <;> infer_instance

/-- Each of the eight cells of a device has one duty, in round 0. -/
def rd : Rounds.Schedule (GSem nD τ sig) Unit 𝕄 where
  duties g r := if r = 0 ∧ g.1.2 = .tc ∧ (kindOf g.2).isSome then {()} else ∅
  unitless _ := False
  amount g _ _ := ((kindOf g.2).map amt).getD 1
  payload g _ _ := ((kindOf g.2).map (pay m g.1.1)).getD iprop(emp)
  amount_pos g _ _ _ := by
    cases kindOf g.2 with
    | none => exact Nat.one_pos
    | some k => exact amt_pos k

instance rd_payload_storable (g : GSem nD τ sig) (r : ℕ) (d : Unit) :
    BI.Storable (upEmb : UEmb _ 𝕄) ((rd (F := F) m).payload g r d) := by
  show BI.Storable upEmb (((kindOf g.2).map (pay m g.1.1)).getD iprop(emp))
  cases kindOf g.2 with
  | none => show BI.Storable upEmb iprop(emp); infer_instance
  | some k => show BI.Storable upEmb (pay m g.1.1 k); infer_instance

section Sched
variable (c : Dev nD) (k : Fin 8)

/-- Each cell has one duty in its first round. -/
theorem duties_eq : (rd (F := F) m).duties (cell c k) 0 = {()} := by
  dsimp only [rd]; rw [kindOf_csem]; exact if_pos ⟨rfl, rfl, rfl⟩

/-- No cell has a duty in a later round. -/
theorem duties_later (g : GSem nD τ sig) : ∀ r, 1 ≤ r → (rd (F := F) m).duties g r = ∅ :=
  fun r hr => by dsimp only [rd]; exact if_neg fun h => by omega

/-- The one duty is among the first round's. -/
theorem mem_duties (d : Unit) : d ∈ (rd (F := F) m).duties (cell c k) 0 := by rw [duties_eq]; exact Finset.mem_singleton_self _

/-- The duty's amount is the cell's payment. -/
theorem amount_eq (d : Unit) : (rd (F := F) m).amount (cell c k) 0 d = amt k := by dsimp only [rd]; rw [kindOf_csem]; rfl

/-- The first round expects the cell's payment and no more. -/
theorem expect_eq : (rd (F := F) m).expect (cell c k) 0 = amt k := by
  unfold Schedule.expect Schedule.amountOf; rw [duties_eq, Finset.sum_singleton, amount_eq]

/-- The duty's payload is what the cell's payment hands over. -/
theorem payload_eq (d : Unit) : (rd (F := F) m).payload (cell c k) 0 d = pay m c k := by dsimp only [rd]; rw [kindOf_csem]; rfl

/-- All that a cell's round hands over is its one payment's. -/
theorem rest_eq : bigSep ((rd (F := F) m).duties (cell c k) 0 \ ∅) (fun d => (rd (F := F) m).payload (cell c k) 0 d) = pay m c k := by
  rw [Finset.sdiff_empty, duties_eq, bigSep_singleton, payload_eq]

end Sched

end Cert.IdlRun
-- ==== Proof.Idl.Steps.lean ====
/-
What each device owes and when it may wait; and one lemma for each kind of step of the kernel: the signal, the
local copy, the transfer to the peer, the two waits, the load and the store.
-/
module

public import proofs.«01_k».proof.Proof.Idl.Schedule

@[expose] public section

noncomputable section

namespace Cert.IdlRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## What is owed, and the levels -/

/-- Device `c` owes its peer the barrier's unit and the two landings, which it pays in that order. -/
def O₂ (c : Dev nD) : CellTallies nD τ sig Unit := tallyAt (cell (pr c) 7) () (amt 7)
def O₁ (c : Dev nD) : CellTallies nD τ sig Unit := O₂ c + tallyAt (cell (pr c) 6) () (amt 6)
def O₀ (c : Dev nD) : CellTallies nD τ sig Unit := O₁ c + tallyAt (cell (pr c) 0) () (amt 0)

def L (g : GSem nD τ sig) : Finset Unit := if g.1.2 = .tc then {()} else ∅

/-- The landings lie above the barrier, and the barrier above everything else. -/
def level : Fin 8 → ℕ
  | 0 => 1 | 1 => 0 | 2 => 0 | 3 => 0 | 4 => 0 | 5 => 0 | 6 => 2 | 7 => 2
def lv (g : GSem nD τ sig) (_ : Unit) : ℕ := ((kindOf g.2).map level).getD 0

/-- Semaphores that are not of a TensorCore have no level. -/
theorem L_of_ne (g : GSem nD τ sig) (h : g.1.2 ≠ .tc) : L g = ∅ := if_neg h
/-- Semaphores of a TensorCore have one level. -/
theorem L_tc (c : Dev nD) (s : SemLoc sig) : L ((c : Thread nD τ), s) = {()} := if_pos rfl
/-- The level of a cell is that of its number. -/
theorem lv_cell (c : Dev nD) (k : Fin 8) (u : Unit) : lv (cell c k) u = level k := by unfold lv; rw [kindOf_csem]; rfl

/-- Every cell that `O` owes is one of the eight of some device, above level `b`. -/
def Above (b : ℕ) (O : CellTallies nD τ sig Unit) : Prop :=
  ∀ (g : GSem nD τ sig) (u : Unit), 0 < O g u → ∃ d k, g = cell d k ∧ b < level k

/-- Nothing owed lies above every level. -/
theorem above_zero (b : ℕ) : Above b 0 := fun g u h => absurd h (Nat.lt_irrefl 0)

/-- One debt lies above every level below its cell's. -/
theorem above_tally {b : ℕ} (d : Dev nD) {k : Fin 8} (n : ℕ) (hk : b < level k) : Above b (tallyAt (cell d k) () n) := fun g u h => by
  rw [tallyAt_apply] at h
  by_cases hg : g = cell d k ∧ u = ()
  · exact ⟨d, k, hg.1, hk⟩
  · rw [if_neg hg] at h; exact absurd h (Nat.lt_irrefl 0)

/-- Two debts above a level lie above it together. -/
theorem above_add {b : ℕ} {O O' : CellTallies nD τ sig Unit} (h : Above b O) (h' : Above b O') : Above b (O + O') := fun g u hg => by
  rw [Pi.add_apply, Finsupp.add_apply] at hg
  rcases Nat.eq_zero_or_pos (O g u) with h0 | h0
  · exact h' g u (by omega)
  · exact h g u h0

/-- After the first transfer all that is owed lies above level 1. -/
theorem above_O₂ {b : ℕ} (c : Dev nD) (hb : b < 2) : Above b (O₂ c) := above_tally (k := 7) _ _ hb
/-- After the barrier's signal all that is owed lies above level 1. -/
theorem above_O₁ {b : ℕ} (c : Dev nD) (hb : b < 2) : Above b (O₁ c) := above_add (above_O₂ c hb) (above_tally (k := 6) _ _ hb)
/-- All that is owed at launch lies above level 0. -/
theorem above_O₀ {b : ℕ} (c : Dev nD) (hb : b < 1) : Above b (O₀ c) :=
  above_add (above_O₁ c (by omega)) (above_tally (k := 0) _ _ hb)

omit [FloatOps F] in
/-- A device may wait on a semaphore that lies below everything it owes. -/
theorem may_wait (c : Dev nD) (s : SemLoc sig) (b : ℕ) (hs : lv ((c : Thread nD τ), s) () ≤ b) {O : CellTallies nD τ sig Unit} (hO : Above b O) :
    (levAts L lv : sProp 𝕄) ⊢ MayWait (c : Thread nD τ) s () O :=
  MayOwe.of_cut (L := L) (lev := lv) b (fun p hp => by rw [Finset.mem_singleton.mp hp, L_tc]; exact Finset.mem_singleton_self _)
    (fun g u hg => by obtain ⟨d, k, rfl, -⟩ := hO g u hg; exact Finset.mem_singleton_self _)
    (fun p hp => by rw [Finset.mem_singleton.mp hp]; exact hs)
    (fun g u hg => by obtain ⟨d, k, rfl, h⟩ := hO g u hg; rw [lv_cell]; exact h)

/-! ## What every device knows -/

/-- Every cell's invariant, under the names `K`, and that round 0 of every cell is reached. -/
def records (K : Dev nD × Fin 8 → ℕ) : sProp 𝕄 :=
  iprop((bigSep Finset.univ fun ck : Dev nD × Fin 8 => cellInv ER (rd m) (K ck) (cell ck.1 ck.2))
    ∗ bigSep Finset.univ fun ck : Dev nD × Fin 8 => reached ER (cell ck.1 ck.2) 0)

instance records_persistent (K : Dev nD × Fin 8 → ℕ) : BI.Persistent (records m K) := by unfold records; infer_instance

/-- The records hold every cell's invariant. -/
theorem records_inv (K : Dev nD × Fin 8 → ℕ) (c : Dev nD) (k : Fin 8) : records m K ⊢ cellInv ER (rd m) (K (c, k)) (cell c k) := by
  unfold records
  iintro ⟨#H, -⟩
  iapply (show (bigSep Finset.univ fun ck : Dev nD × Fin 8 => (cellInv ER (rd m) (K ck) (cell ck.1 ck.2) : sProp 𝕄)) ⊢ cellInv ER (rd m) (K (c, k)) (cell c k)
    from bigSep_elim (Finset.mem_univ (c, k)))
  iexact H

/-- The records say that every cell has reached its first round. -/
theorem records_reached (K : Dev nD × Fin 8 → ℕ) (c : Dev nD) (k : Fin 8) : records m K ⊢ reached ER (cell c k) 0 := by
  unfold records
  iintro ⟨-, #H⟩
  iapply (show (bigSep Finset.univ fun ck : Dev nD × Fin 8 => (reached ER (cell ck.1 ck.2) 0 : sProp 𝕄)) ⊢ reached ER (cell c k) 0
    from bigSep_elim (Finset.mem_univ (c, k)))
  iexact H

/-- Device `c` owes `O`, whatever it has waited for. -/
def ow (c : Dev nD) (O : CellTallies nD τ sig Unit) : sProp 𝕄 := iprop(∃ W, owes (c : Thread nD τ) O W)

abbrev 𝒱₀ : Variants := Variants.none

/-! ## The steps -/

section Steps

variable (K : Dev nD × Fin 8 → ℕ) (c : Dev nD) {α : Type} {Q : α → sProp (MT nD τ sig Unit (Elt F) ℕ UU ℕ)}

/-- A load of a rectangle of a memref of which that rectangle is owned. -/
theorem load_step {sp : CoreSpace} {s : Shape} {e : EltTy} (M : Memref sig .tc sp s e) (r : Rect s) (hr : ∀ a, r.stride a = 1)
    {hl : M.view.LoadsAt r.toLoadRect} {k : (r.shape.Idx → Elt F e) → Prog (TpuEff nD τ sig (Elt F) Λ₀ .tc) α} (X : r.shape.Idx → Elt F e) :
    (own1 c (M.slice r hr) X : sProp 𝕄)
      ⊢ iprop((own1 c (M.slice r hr) X -∗ wp frame (wpE (defs₀ (F := F)) 𝒱₀ (c : Thread nD τ) none) Set.univ (k X) Q)
        -∗ wp frame (wpE (defs₀ (F := F)) 𝒱₀ (c : Thread nD τ) none) Set.univ (.op (.load M r.toLoadRect hl) k) Q) := by
  unfold own1 owns
  iintro ⟨%f, %hf, H⟩ Hk
  iapply (wp_load_rect 𝒱₀ (c : Thread nD τ) none Set.univ (m := M) (r := r) (Finset.Subset.refl _)) $$ H
  iintro H
  rw [show (M.access r).read (Elt F) f = X from hf]
  iapply Hk
  iexists f
  isplitr
  · ipureintro; exact hf
  · iexact H

/-- A store to a rectangle of a memref of which that rectangle is owned. -/
theorem store_step {sp : CoreSpace} {s : Shape} {e : EltTy} (M : Memref sig .tc sp s e) (r : Rect s) (hr : ∀ a, r.stride a = 1)
    {w : r.shape.Idx → Elt F e} {hx : (M.access r).Stores Finset.univ} {hm : (Finset.univ : Finset r.shape.Idx) = Finset.univ ∨ ∀ a, r.stride a = 1}
    {k : PUnit → Prog (TpuEff nD τ sig (Elt F) Λ₀ .tc) α} (X : r.shape.Idx → Elt F e) :
    (own1 c (M.slice r hr) X : sProp 𝕄)
      ⊢ iprop((own1 c (M.slice r hr) w -∗ wp frame (wpE (defs₀ (F := F)) 𝒱₀ (c : Thread nD τ) none) Set.univ (k ⟨⟩) Q)
        -∗ wp frame (wpE (defs₀ (F := F)) 𝒱₀ (c : Thread nD τ) none) Set.univ (.op (.store M r w Finset.univ hx hm) k) Q) := by
  unfold own1 owns
  iintro ⟨%f, %hf, H⟩ Hk
  iapply (wp_store 𝒱₀ (c : Thread nD τ) none Set.univ (m := M) (r := r) (Mk := Finset.univ) (S := (M.access r).set) (Finset.Subset.refl _)) $$ H
  iintro H
  iapply Hk
  iexists ((M.view.slice r).write (Elt F) f w Finset.univ)
  isplitr
  · ipureintro; exact View.read_write_univ (v := M.view.slice r) f w
  · iexact H

/-- A copy within device `c` that pays its cell `k`. -/
theorem copy_step {sp sp' : Space} {s : Shape} {e : EltTy} {src : Memref sig .tc sp s e} {dst : Memref sig .tc sp' s e} {sem : SemLoc sig}
    {hsrc : src.view.WordExact} {hdst : dst.view.WordExact} {hsem : DmaTarget.Typed (nD := nD) (τ := τ) (p := .tc) sp sem (.here dst)}
    {k : PUnit → Prog (TpuEff nD τ sig (Elt F) Λ₀ .tc) α} (j : Fin 8) (hj : csem j = sem) (q : PosShare TreeShare)
    (fs : Buf (Elt F) (src.view.loc (c : Thread nD τ))) (hN : dst.view.amount sem = amt j)
    (hpay : iprop(own1 c dst (src.view.read (Elt F) fs) ∗ (src.view.loc (c : Thread nD τ) ↦[src.view.set]{q} fs)) ⊢ pay m c j) :
    iprop(records m K ∗ (src.view.loc (c : Thread nD τ) ↦[src.view.set]{q} fs) ∗ anyOf c dst ∗ dutyTok ER (cell c j) 0 ())
      ⊢ iprop((cred (tallyAt (cell c j) () (amt j)) -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDma src (.here dst) sem hsrc hdst hsem) k) Q) := by
  subst hj
  unfold anyOf own1 owns
  iintro ⟨#HR, Hs, ⟨%X, Hd⟩, Ht⟩ Hk
  icases Hd with ⟨%fd, -, Hd⟩
  iapply (Rounds.wp_copy_pointsTo 𝒱₀ ER (rd m) (c : Thread nD τ) none (κ := K (c, j)) (r := 0) (d := ())
    (mem_duties m c j ()) () (amt j) hN (amount_eq m c j ()) (q := q) (fs := fs) (fd := fd)
    (by
      rw [payload_eq]
      refine .trans ?_ hpay
      unfold own1 owns
      iintro ⟨Hd, Hs⟩
      isplitl [Hd]
      · iexists (dst.view.write (Elt F) fd (src.view.read (Elt F) fs) Finset.univ)
        isplitr
        · ipureintro; exact View.read_write_univ _ _
        · iexact Hd
      · iexact Hs)) $$ [Hs Hd Ht]
  · isplitr; · iapply (records_inv m K c j); iexact HR
    isplitl [Hs]; · iexact Hs
    isplitl [Hd]; · iexact Hd
    isplitl [Ht]; · iexact Ht
    iapply (records_reached m K c j); iexact HR
  iexact Hk

/-- A transfer from device `c` to its peer that pays `c`'s cell `i` at its source and the peer's cell `j` where it lands. -/
theorem send_step {n : Dev nD} (hn : n = pr c) {sp sp' : Space} {s : Shape} {e : EltTy} {src : Memref sig .tc sp s e}
    {dst : Memref sig .tc sp' s e} {hsc : dst.view.ref.isScScratch = false} {sS sem : SemLoc sig}
    {hsrc : src.view.WordExact} {hdst : dst.view.WordExact} {hsem : DmaTarget.Typed sp sem (.remote (Dev.tc n : Thread nD τ) dst sS hsc)}
    {k : PUnit → Prog (TpuEff nD τ sig (Elt F) Λ₀ .tc) α} (i j : Fin 8) (hi : csem i = sS) (hj : csem j = sem)
    (hN : dst.view.amount sem = amt j) (hij : amt i = amt j) (X : s.Idx → Elt F e) (O : CellTallies nD τ sig Unit)
    (hpay₁ : own1 c src X ⊢ pay m c i) (hpay₂ : own1 (pr c) dst X ⊢ pay m (pr c) j) :
    iprop(records m K ∗ own1 c src X ∗ anyOf (pr c) dst ∗ ow c (O + tallyAt (cell (pr c) j) () (amt j))
        ∗ dutyTok ER (cell c i) 0 () ∗ dutyTok ER (cell (pr c) j) 0 ())
      ⊢ iprop(((cred (tallyAt (cell c i) () (amt i)) ∗ ow c O) -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma src (.remote (Dev.tc n : Thread nD τ) dst sS hsc) sem hsrc hdst hsem) k) Q) := by
  subst hn; subst hi; subst hj
  unfold ow anyOf
  iintro ⟨#HR, Hs, ⟨%Y, Hd⟩, ⟨%W, HO⟩, Ht, Ht'⟩ Hk
  ihave Hs' := (show own1 c src X ⊢ iprop(∃ f, ⌜src.view.read (Elt F) f = X⌝ ∗ (src.view.loc (c : Thread nD τ) ↦[src.view.set]{fullShare} f)) from .rfl) $$ Hs
  icases Hs' with ⟨%fs, %hfs, Hs⟩
  ihave Hd' := (show own1 (pr c) dst Y ⊢ iprop(∃ f, ⌜dst.view.read (Elt F) f = Y⌝ ∗ (dst.view.loc (pr c : Thread nD τ) ↦[dst.view.set]{fullShare} f)) from .rfl) $$ Hd
  icases Hd' with ⟨%fd, -, Hd⟩
  iapply (Rounds.wp_send_pointsTo 𝒱₀ ER (rd m) (c : Thread nD τ) none (κ₁ := K (c, i)) (κ₂ := K (pr c, j))
    (r₁ := 0) (r₂ := 0) (d₁ := ()) (d₂ := ()) (q := fullShare) (fs := fs) (fd := fd)
    (mem_duties m c i ()) (mem_duties m (pr c) j ()) () () (amt j) hN ((amount_eq m c i ()).trans hij) (amount_eq m (pr c) j ())
    O rfl (W := W)
    (by
      rw [payload_eq]
      refine .trans ?_ hpay₁
      unfold own1 owns
      iintro Hs
      iexists fs
      isplitr
      · ipureintro; exact hfs
      · iexact Hs)
    (by
      rw [payload_eq]
      refine .trans ?_ hpay₂
      unfold own1 owns
      iintro Hd
      iexists (dst.view.write (Elt F) fd (src.view.read (Elt F) fs) Finset.univ)
      isplitr
      · ipureintro; exact (View.read_write_univ _ _).trans hfs
      · iexact Hd)) $$ [Hs Hd HO Ht Ht']
  · isplitr; · iapply (records_inv m K c i); iexact HR
    isplitr; · iapply (records_inv m K (pr c) j); iexact HR
    isplitl [Hs]; · iexact Hs
    isplitl [Hd]; · iexact Hd
    isplitl [HO]; · iexact HO
    isplitl [Ht]; · iexact Ht
    isplitr; · iapply (records_reached m K c i); iexact HR
    isplitl [Ht']; · iexact Ht'
    iapply (records_reached m K (pr c) j); iexact HR
  iintro ⟨Hc, HO⟩
  iapply Hk
  isplitl [Hc]
  · rw [hij]; iexact Hc
  · iexists W; iexact HO

/-- The signal of device `c` to its peer's barrier, which hands over `c`'s own receive buffer. -/
theorem signal_step {n : Dev nD} (hn : n = pr c) {sem : Sem sig} {a : ℕ} (hs : csem 0 = .reg sem) (ha : amt 0 = a)
    {k : PUnit → Prog (TpuEff nD τ sig (Elt F) Λ₀ .tc) α} (O : CellTallies nD τ sig Unit) :
    iprop(records m K ∗ ow c (O + tallyAt (cell (pr c) 0) () (amt 0)) ∗ dutyTok ER (cell (pr c) 0) 0 () ∗ pay m (pr c) 0)
      ⊢ iprop((ow c O -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (Dev.tc n : Thread nD τ) sem a) k) Q) := by
  subst hn; subst ha
  have hc : ∀ d : Dev nD, cell d 0 = ((d : Thread nD τ), SemLoc.reg sem) := fun d => by rw [← hs]
  unfold ow
  iintro ⟨#HR, ⟨%W, HO⟩, Ht, Hp⟩ Hk
  iapply (Rounds.wp_signal 𝒱₀ ER (rd m) (c : Thread nD τ) none (dst := (pr c : Thread nD τ)) (sem := sem) (r := 0) (κ := K (pr c, 0)) (d := ())
      (by rw [← hc]; exact mem_duties m (pr c) 0 ()) (by rw [← hc]; exact amount_eq m (pr c) 0 ()) () O rfl (W := W)) $$ [HO Ht Hp]
  · rw [← hc]
    isplitr; · iapply (records_inv m K (pr c) 0); iexact HR
    isplitl [HO]; · iexact HO
    isplitl [Ht]; · iexact Ht
    isplitl [Hp]
    · rw [payload_eq]; iexact Hp
    · iapply (records_reached m K (pr c) 0); iexact HR
  iintro HO
  iapply Hk
  iexists W
  iexact HO

/-- Any wait of device `c` for all of its cell `j`: what the payment hands over, and the semaphore at zero for good. -/
theorem wait_step {w : TpuEff nD τ sig (Elt F) Λ₀ .tc PUnit} {sm : SemLoc sig} {a : ℕ} (j : Fin 8) (hj : csem j = sm) (ha : a = amt j)
    (hw : ∀ Kp : PUnit → sProp 𝕄, wpE (defs₀ (F := F)) 𝒱₀ (c : Thread nD τ) none Set.univ w Kp = waitSpec (c : Thread nD τ) Set.univ sm a Kp)
    {k : PUnit → Prog (TpuEff nD τ sig (Elt F) Λ₀ .tc) α} {O : CellTallies nD τ sig Unit} (b : ℕ) (hb : level j ≤ b) (hO : Above b O) :
    iprop(records m K ∗ levAts L lv ∗ cred (tallyAt (cell c j) () (amt j)) ∗ ow c O ∗ atPos ER (cell c j) 0 ∅ 0)
      ⊢ iprop(((ow c O ∗ semVal (cell c j) 0 ∗ pay m c j) -∗ wp frame (wpE (defs₀ (F := F)) 𝒱₀ (c : Thread nD τ) none) Set.univ (k ⟨⟩) Q)
        -∗ wp frame (wpE (defs₀ (F := F)) 𝒱₀ (c : Thread nD τ) none) Set.univ (.op w k) Q) := by
  subst hj; subst ha
  unfold ow
  iintro ⟨#HR, #HL, Hc, ⟨%W, HO⟩, Hat⟩ Hk
  iapply (Rounds.wp_wait_rest_token 𝒱₀ ER (rd m) (c : Thread nD τ) none (κ := K (c, j)) hw (Set.mem_univ _) () (O := O) (W := W)
    (R := 0) (m := 0) (T := ∅) (by rw [Nat.zero_add]; exact (expect_eq m c j).symm)) $$ [Hc HO Hat]
  · isplitr; · iapply (records_inv m K c j); iexact HR
    isplitl [Hc]; · iexact Hc
    isplitl [HO]; · iexact HO
    isplitr; · iapply (may_wait c (csem j) b (by rw [lv_cell]; exact hb) hO); iexact HL
    iexact Hat
  iintro ⟨HO, Hat, -, Hp⟩
  ihave Hp := (Entails.of_eq (rest_eq m c j)) $$ Hp
  imod (Rounds.cell_close ER (rd m) (Set.mem_univ (K (c, j))) (fun h => h) (R := 0 + 1) (duties_later m (cell c j))) $$ [Hat] with Hz
  · isplitr; · iapply (records_inv m K c j); iexact HR
    iexact Hat
  iapply Hk
  isplitl [HO]
  · iexists _; iexact HO
  isplitl [Hz]; · iexact Hz
  iexact Hp

/-- The wait for a copy or a transfer. -/
theorem wait_dma_step {sp sp' : Space} {s s' : Shape} {e e' : EltTy} {sem : DmaSem sig} {src : Memref sig .tc sp' s' e'} {κ' : Kind} {dst : Memref sig κ' sp s e}
    {hsrc : src.view.WordExact} {hdst : dst.view.WordExact} (j : Fin 8) (hj : csem j = .dma sem) (ha : dst.view.dmaCredit = amt j)
    {k : PUnit → Prog (TpuEff nD τ sig (Elt F) Λ₀ .tc) α} {O : CellTallies nD τ sig Unit} (b : ℕ) (hb : level j ≤ b) (hO : Above b O) :
    iprop(records m K ∗ levAts L lv ∗ cred (tallyAt (cell c j) () (amt j)) ∗ ow c O ∗ atPos ER (cell c j) 0 ∅ 0)
      ⊢ iprop(((ow c O ∗ semVal (cell c j) 0 ∗ pay m c j) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sem src dst hsrc hdst) k) Q) :=
  wait_step m K c j hj ha (wpE_waitDma2_eq 𝒱₀ (c : Thread nD τ) none Set.univ) b hb hO

/-- The wait for the peer's signal. -/
theorem wait_bar_step {sem : Sem sig} {a : ℕ} (hj : csem 0 = .reg sem) (ha : a = amt 0)
    {k : PUnit → Prog (TpuEff nD τ sig (Elt F) Λ₀ .tc) α} {O : CellTallies nD τ sig Unit} (b : ℕ) (hb : level 0 ≤ b) (hO : Above b O) :
    iprop(records m K ∗ levAts L lv ∗ cred (tallyAt (cell c 0) () (amt 0)) ∗ ow c O ∗ atPos ER (cell c 0) 0 ∅ 0)
      ⊢ iprop(((ow c O ∗ semVal (cell c 0) 0 ∗ pay m c 0) -∗ wp frame (wpE (defs₀ (F := F)) 𝒱₀ (c : Thread nD τ) none) Set.univ (k ⟨⟩) Q)
        -∗ wp frame (wpE (defs₀ (F := F)) 𝒱₀ (c : Thread nD τ) none) Set.univ (.op (.semWait sem a) k) Q) :=
  wait_step m K c 0 hj ha (wpE_semWait_eq 𝒱₀ (c : Thread nD τ) none Set.univ) b hb hO

end Steps

end Cert.IdlRun
-- ==== Proof.Idl.Body.lean ====
/-
The kernel's body on one device, effect by effect in program order, from what the launch gives the device to its
block of the result.
-/
module

public import proofs.«01_k».proof.Proof.Idl.Steps

@[expose] public section

noncomputable section

namespace Cert.IdlRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The argument, lent to a copy -/

/-- A share of device `c`'s argument at its contents at launch. -/
def argPts (c : Dev nD) (q : PosShare TreeShare) : sProp 𝕄 := ((c : Thread nD τ).loc main_arg0) ↦{q} arg m c

/-- What is left of that share while the elements `I` are lent. -/
def argRest (c : Dev nD) (q : PosShare TreeShare) (I : Finset (Idx ((c : Thread nD τ).loc main_arg0))) : sProp 𝕄 :=
  ((c : Thread nD τ).loc main_arg0) ↦[Finset.univ \ I]{q} arg m c

/-- The first copy borrows the elements it reads from the left share, and the rest of the share stays. -/
theorem lend0 (c : Dev nD) : argPts m c fullShare.left ⊣⊢ iprop(lent0 m c ∗ argRest m c fullShare.left (src0 c).view.set) :=
  pointsTo_split_subset (Finset.subset_univ _)
/-- The second copy borrows the elements it reads from the right share, and the rest of the share stays. -/
theorem lend1 (c : Dev nD) : argPts m c fullShare.right ⊣⊢ iprop(lent1 m c ∗ argRest m c fullShare.right (src1 c).view.set) :=
  pointsTo_split_subset (Finset.subset_univ _)
/-- The copy of the device's own columns borrows the elements it reads from the left share, and the rest of it stays. -/
theorem lendM (c : Dev nD) : argPts m c fullShare.left ⊣⊢ iprop(lentM m c ∗ argRest m c fullShare.left (srcM c).view.set) :=
  pointsTo_split_subset (Finset.subset_univ _)
/-- The argument is held as two shares, so that two copies may read it at once. -/
theorem arg_shares (c : Dev nD) : argPts m c fullShare ⊣⊢ iprop(argPts m c fullShare.left ∗ argPts m c fullShare.right) :=
  pointsTo_share (PosShare.mem_left_op_right fullShare)

/-! ## What the body starts from and what it leaves -/

/-- A buffer at some contents is its two halves, each at some contents. -/
theorem anyOf_halves (c : Dev nD) {sp : Space} {e : EltTy} (M : Memref sig .tc sp S256x256 e) :
    (anyOf c M : sProp 𝕄) ⊢ iprop(anyOf c (top M) ∗ anyOf c (bot M)) := by
  unfold anyOf
  iintro ⟨%X, H⟩
  ihave H := (owns_split c M fullShare X) $$ H
  icases H with ⟨HA, HB⟩
  isplitl [HA]
  · iexists _; iexact HA
  · iexists _; iexact HB

/-- Two halves at known contents make the buffer at some contents. -/
theorem anyOf_of_halves (c : Dev nD) {sp : Space} {e : EltTy} (M : Memref sig .tc sp S256x256 e) (A B : S128x256.Idx → Elt F e) :
    iprop(own1 c (top M) A ∗ own1 c (bot M) B) ⊢ (anyOf c M : sProp 𝕄) := by
  unfold anyOf
  iintro H
  iexists (glue A B)
  iapply (owns_glue c M fullShare A B)
  iexact H

/-- Such ownership names its contents. -/
theorem any_elim (c : Dev nD) {sp : Space} {s : Shape} {e : EltTy} (M : Memref sig .tc sp s e) :
    (anyOf c M : sProp 𝕄) ⊢ iprop(∃ X, own1 c M X) := .rfl

/-- The four scratch buffers. -/
def bufs (c : Dev nD) : sProp 𝕄 := iprop(anyOf c pfM ∗ anyOf c mineM ∗ anyOf c sndM ∗ anyOf c rcvM)

/-- Device `c`'s positions: each of its cells at round 0. -/
def posns (c : Dev nD) : sProp 𝕄 := bigSep Finset.univ fun k : Fin 8 => atPos ER (cell c k) 0 ∅ 0
/-- Its semaphores, at zero. -/
def zeros (c : Dev nD) : sProp 𝕄 := bigSep Finset.univ fun k : Fin 8 => semVal (cell c k) 0

/-- The tokens of the duties that device `c` pays: its peer's barrier and landings, its own copies and sends. -/
def payToks (c : Dev nD) : sProp 𝕄 :=
  iprop(dutyTok ER (cell (pr c) 0) 0 () ∗ dutyTok ER (cell c 1) 0 () ∗ dutyTok ER (cell c 2) 0 () ∗ dutyTok ER (cell c 3) 0 ()
    ∗ dutyTok ER (cell c 4) 0 () ∗ dutyTok ER (cell c 5) 0 () ∗ dutyTok ER (cell (pr c) 6) 0 () ∗ dutyTok ER (cell (pr c) 7) 0 ())

/-- Its credit for what the peer will pay. -/
def creds (c : Dev nD) : sProp 𝕄 :=
  iprop(cred (tallyAt (cell c 0) () (amt 0)) ∗ cred (tallyAt (cell c 6) () (amt 6)) ∗ cred (tallyAt (cell c 7) () (amt 7)))

/-- A conjunction over a device's eight cells, written out. -/
theorem bigSep_eight (Φ : Fin 8 → sProp 𝕄) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- What device `c` holds before the body, `K` naming the invariants. -/
def bodyPre (K : Dev nD × Fin 8 → ℕ) (c : Dev nD) : sProp 𝕄 :=
  iprop(records m K ∗ levAts L lv ∗ posns c ∗ payToks c ∗ creds c ∗ argPts m c fullShare ∗ bufs c ∗ ow c (O₀ c) ∗ anyOf c outM)

/-- What it holds after. -/
def bodyPost (c : Dev nD) : sProp 𝕄 :=
  iprop(zeros c ∗ argPts m c fullShare ∗ bufs c ∗ ow c 0 ∗ own1 c outM (outAt m c))

/-- The receive buffer's halves are what the signal hands over. -/
theorem pay_bar (c : Dev nD) : iprop(anyOf c (top rcvM) ∗ anyOf c (bot rcvM)) ⊢ pay m (pr c) 0 := by
  show _ ⊢ iprop(anyOf (pr (pr c)) (top rcvM) ∗ anyOf (pr (pr c)) (bot rcvM))
  rw [pr_pr]

/-- What lands on the peer is what the peer's landing cells promise. -/
theorem pay_landed0 (c : Dev nD) : own1 (pr c) (top rcvM) (sv0 m c) ⊢ pay m (pr c) 6 := by
  show _ ⊢ own1 (pr c) (top rcvM) (sv0 m (pr (pr c)))
  rw [pr_pr]
/-- The lower half of the peer's receive buffer at what device `c` sends is the payment of the peer's last cell. -/
theorem pay_landed1 (c : Dev nD) : own1 (pr c) (bot rcvM) (sv1 m c) ⊢ pay m (pr c) 7 := by
  show _ ⊢ own1 (pr c) (bot rcvM) (sv1 m (pr (pr c)))
  rw [pr_pr]

/-! ## The body's parts, each from what it uses -/

section Body

/-- The words of the device's mesh coordinates, and its barrier. -/
abbrev w2 (c : Dev nD) : BitVec 32 := Scalar.remsi (Scalar.divsi (Dev.word c) 8#32) 2#32
abbrev w5 (c : Dev nD) : BitVec 32 := Scalar.remsi (Scalar.divsi (Dev.word c) 4#32) 2#32
abbrev w8 (c : Dev nD) : BitVec 32 := Scalar.remsi (Scalar.divsi (Dev.word c) 1#32) 4#32
abbrev w9 (c : Dev nD) : BitVec 32 := Scalar.subi 1#32 (w5 c)
abbrev barA : Sems sig S_ := SemArray.scalar (sig.barrier 0 rfl)

variable (K : Dev nD × Fin 8 → ℕ)

set_option maxHeartbeats 1600000 in
/-- The signal and the two copies of the peer's columns. -/
theorem sound_part1 (c : Dev nD) (Q : (Σ' (d0 : Dev nD) (v2 : BitVec 32) (v5 : BitVec 32) (v8 : BitVec 32) (v9 : BitVec 32), Sems sig S_) → sProp 𝕄) :
    iprop((records m K ∗ ow c (O₀ c) ∗ dutyTok ER (cell (pr c) 0) 0 () ∗ dutyTok ER (cell c 1) 0 () ∗ dutyTok ER (cell c 2) 0 ()
        ∗ anyOf c (top rcvM) ∗ anyOf c (bot rcvM) ∗ lent0 m c ∗ anyOf c (top pfM) ∗ lent1 m c ∗ anyOf c (bot pfM))
      ∗ ((ow c (O₁ c) ∗ cred (tallyAt (cell c 1) () (amt 1)) ∗ cred (tallyAt (cell c 2) () (amt 2)))
        -∗ Q ⟨c, w2 c, w5 c, w8 c, w9 c, barA⟩))
      ⊢ wp frame (wpE (defs₀ (F := F)) 𝒱₀ (c : Thread nD τ) none) Set.univ (k0_part1 (Memref.whole main_arg0) (Memref.isWhole_whole _) (Memref.whole cc0_stg0_0) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    cc0_scratch4 cc0_scratch5 cc0_scratch6 cc0_scratch7) Q := by
  simp only [k0_part1_eq_skeleton]; unfold k0_part1_skel
  simp only [semSignalWord, semWaitWord, Prog.lift, Prog.bind_op, Prog.bind_ret, Prog.pure_eq_ret, wp_deviceId]
  iintro ⟨⟨#HR, HO, Ht0, Ht1, Ht2, HrA, HrB, HlL, HpfA, HlR, HpfB⟩, Hk⟩
  -- the signal to the peer
  unfold O₀
  iapply (signal_step m K c (dev1_eq c) rfl (by decide) (O₁ c)) $$ [HO Ht0 HrA HrB]
  · isplitr; · iexact HR
    isplitl [HO]; · iexact HO
    isplitl [Ht0]; · iexact Ht0
    iapply (pay_bar m c)
    isplitl [HrA] <;> iassumption
  iintro HO
  -- the two copies of the peer's columns
  iapply (copy_step m K c 1 rfl fullShare.left (arg m c) rfl .rfl) $$ [HlL HpfA Ht1]
  · isplitr; · iexact HR
    isplitl [HlL]; · unfold lent0; iexact HlL
    isplitl [HpfA]; · iexact HpfA
    iexact Ht1
  iintro Hc1
  iapply (copy_step m K c 2 rfl fullShare.right (arg m c) rfl .rfl) $$ [HlR HpfB Ht2]
  · isplitr; · iexact HR
    isplitl [HlR]; · unfold lent1; iexact HlR
    isplitl [HpfB]; · iexact HpfB
    iexact Ht2
  iintro Hc2
  rw [wp_ret]; imodintro
  iapply Hk
  isplitl [HO]; · iexact HO
  isplitl [Hc1] <;> iassumption

set_option maxHeartbeats 1600000 in
/-- The send buffer's first half, its transfer once the peer has signalled, and the load of the second half. -/
theorem sound_part2 (c : Dev nD) (Q : FVec F S128x256 .bf16 → sProp 𝕄) :
    iprop((records m K ∗ levAts L lv ∗ ow c (O₁ c) ∗ cred (tallyAt (cell c 1) () (amt 1)) ∗ atPos ER (cell c 1) 0 ∅ 0
        ∗ cred (tallyAt (cell c 0) () (amt 0)) ∗ atPos ER (cell c 0) 0 ∅ 0
        ∗ cred (tallyAt (cell c 2) () (amt 2)) ∗ atPos ER (cell c 2) 0 ∅ 0
        ∗ dutyTok ER (cell c 4) 0 () ∗ dutyTok ER (cell (pr c) 6) 0 () ∗ anyOf c (top sndM))
      ∗ ((ow c (O₂ c) ∗ semVal (cell c 0) 0 ∗ semVal (cell c 1) 0 ∗ semVal (cell c 2) 0 ∗ lent0 m c ∗ lent1 m c
          ∗ own1 c (top pfM) (xp0 m c) ∗ own1 c (bot pfM) (xp1 m c) ∗ cred (tallyAt (cell c 4) () (amt 4)) ∗ anyOf (pr c) (bot rcvM))
        -∗ Q (k0_pay2 (xp1 m c))))
      ⊢ wp frame (wpE (defs₀ (F := F)) 𝒱₀ (c : Thread nD τ) none) Set.univ (k0_part2 (Memref.whole main_arg0) (Memref.isWhole_whole _) (Memref.whole cc0_stg0_0) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    cc0_scratch4 cc0_scratch5 cc0_scratch6 cc0_scratch7 c (w2 c) (w8 c) (w9 c) barA) Q := by
  simp only [k0_part2_eq_skeleton]; unfold k0_part2_skel
  simp only [semSignalWord, semWaitWord, Prog.lift, Prog.bind_op, Prog.bind_ret, Prog.pure_eq_ret, wp_deviceId]
  iintro ⟨⟨#HR, #HL, HO, Hc1, Ha1, Hc0, Ha0, Hc2, Ha2, Ht4, Ht6, HsndA⟩, Hk⟩
  -- the first of them has landed; its half is rounded into the send buffer
  iapply (wait_dma_step m K c 1 rfl rfl 0 (le_refl _) (above_O₁ c (by decide))) $$ [Hc1 HO Ha1]
  · isplitr; · iexact HR
    isplitr; · iexact HL
    isplitl [Hc1]; · iexact Hc1
    isplitl [HO] <;> iassumption
  iintro ⟨HO, Hz1, Hp⟩
  ihave Hp := (show pay m c 1 ⊢ iprop(own1 c (top pfM) (xp0 m c) ∗ lent0 m c) from .rfl) $$ Hp
  icases Hp with ⟨HpfA, HlL⟩
  iapply (load_step c pfM rA (fun _ => rfl) (xp0 m c)) $$ HpfA
  iintro HpfA
  ihave HsndA := (any_elim c _) $$ HsndA
  icases HsndA with ⟨%S0, HsndA⟩
  iapply (load_step c sndM rA (fun _ => rfl) S0) $$ HsndA
  iintro HsndA
  iapply (store_step c sndM rA (fun _ => rfl) S0) $$ HsndA
  iintro HsndA
  -- the peer's signal
  iapply (wait_bar_step m K c rfl (by decide) 1 (le_refl _) (above_O₁ c (by decide))) $$ [Hc0 HO Ha0]
  · isplitr; · iexact HR
    isplitr; · iexact HL
    isplitl [Hc0]; · iexact Hc0
    isplitl [HO] <;> iassumption
  iintro ⟨HO, Hz0, Hp⟩
  ihave Hp := (show pay m c 0 ⊢ iprop(anyOf (pr c) (top rcvM) ∗ anyOf (pr c) (bot rcvM)) from .rfl) $$ Hp
  icases Hp with ⟨HpA, HpB⟩
  -- the first transfer
  unfold O₁
  iapply (send_step m K c (dev2_eq c) 4 6 rfl rfl rfl rfl (sv0 m c) (O₂ c) .rfl (pay_landed0 m c)) $$ [HsndA HpA HO Ht4 Ht6]
  · isplitr; · iexact HR
    isplitl [HsndA]; · iexact HsndA
    isplitl [HpA]; · iexact HpA
    isplitl [HO]; · iexact HO
    isplitl [Ht4] <;> iassumption
  iintro ⟨Hc4, HO⟩
  -- the second copy has landed; its half is rounded into the send buffer
  iapply (wait_dma_step m K c 2 rfl rfl 0 (le_refl _) (above_O₂ c (by decide))) $$ [Hc2 HO Ha2]
  · isplitr; · iexact HR
    isplitr; · iexact HL
    isplitl [Hc2]; · iexact Hc2
    isplitl [HO] <;> iassumption
  iintro ⟨HO, Hz2, Hp⟩
  ihave Hp := (show pay m c 2 ⊢ iprop(own1 c (bot pfM) (xp1 m c) ∗ lent1 m c) from .rfl) $$ Hp
  icases Hp with ⟨HpfB, HlR⟩
  iapply (load_step c pfM rB (fun _ => rfl) (xp1 m c)) $$ HpfB
  iintro HpfB
  rw [wp_ret]; imodintro
  iapply Hk
  isplitl [HO]; · iexact HO
  isplitl [Hz0]; · iexact Hz0
  isplitl [Hz1]; · iexact Hz1
  isplitl [Hz2]; · iexact Hz2
  isplitl [HlL]; · iexact HlL
  isplitl [HlR]; · iexact HlR
  isplitl [HpfA]; · iexact HpfA
  isplitl [HpfB]; · iexact HpfB
  isplitl [Hc4] <;> iassumption

set_option maxHeartbeats 1600000 in
/-- The send buffer's second half and its transfer; the copy of the device's own columns. -/
theorem sound_part3 (c : Dev nD) (Q : PUnit → sProp 𝕄) :
    iprop((records m K ∗ levAts L lv ∗ ow c (O₂ c) ∗ anyOf c (bot sndM) ∗ anyOf (pr c) (bot rcvM)
        ∗ dutyTok ER (cell c 5) 0 () ∗ dutyTok ER (cell (pr c) 7) 0 ()
        ∗ dutyTok ER (cell c 3) 0 () ∗ atPos ER (cell c 3) 0 ∅ 0 ∗ lentM m c ∗ anyOf c mineM)
      ∗ ((ow c 0 ∗ cred (tallyAt (cell c 5) () (amt 5)) ∗ semVal (cell c 3) 0 ∗ own1 c mineM (xm m c) ∗ lentM m c) -∗ Q ⟨⟩))
      ⊢ wp frame (wpE (defs₀ (F := F)) 𝒱₀ (c : Thread nD τ) none) Set.univ (k0_part3 (Memref.whole main_arg0) (Memref.isWhole_whole _) (Memref.whole cc0_stg0_0) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    cc0_scratch4 cc0_scratch5 cc0_scratch6 cc0_scratch7 c (w2 c) (w5 c) (w8 c) (w9 c) (k0_pay2 (xp1 m c))) Q := by
  simp only [k0_part3_eq_skeleton]; unfold k0_part3_skel
  simp only [semSignalWord, semWaitWord, Prog.lift, Prog.bind_op, Prog.bind_ret, Prog.pure_eq_ret, wp_deviceId]
  iintro ⟨⟨#HR, #HL, HO, HsndB, HpB, Ht5, Ht7, Ht3, Ha3, HlL, Hmine⟩, Hk⟩
  ihave HsndB := (any_elim c _) $$ HsndB
  icases HsndB with ⟨%S1, HsndB⟩
  iapply (load_step c sndM rB (fun _ => rfl) S1) $$ HsndB
  iintro HsndB
  iapply (store_step c sndM rB (fun _ => rfl) S1) $$ HsndB
  iintro HsndB
  -- the second transfer
  rw [show O₂ c = 0 + tallyAt (cell (pr c) 7) () (amt 7) from (zero_add _).symm]
  iapply (send_step m K c (dev3_eq c) 5 7 rfl rfl rfl rfl (sv1 m c) 0 .rfl (pay_landed1 m c)) $$ [HsndB HpB HO Ht5 Ht7]
  · isplitr; · iexact HR
    isplitl [HsndB]; · iexact HsndB
    isplitl [HpB]; · iexact HpB
    isplitl [HO]; · iexact HO
    isplitl [Ht5] <;> iassumption
  iintro ⟨Hc5, HO⟩
  -- the copy of the device's own columns
  iapply (copy_step m K c 3 rfl fullShare.left (arg m c) rfl .rfl) $$ [HlL Hmine Ht3]
  · isplitr; · iexact HR
    isplitl [HlL]; · unfold lentM; iexact HlL
    isplitl [Hmine]; · iexact Hmine
    iexact Ht3
  iintro Hc3
  iapply (wait_dma_step m K c 3 rfl rfl 0 (le_refl _) (above_zero 0)) $$ [Hc3 HO Ha3]
  · isplitr; · iexact HR
    isplitr; · iexact HL
    isplitl [Hc3]; · iexact Hc3
    isplitl [HO] <;> iassumption
  iintro ⟨HO, Hz3, Hp⟩
  ihave Hp := (show pay m c 3 ⊢ iprop(own1 c mineM (xm m c) ∗ lentM m c) from .rfl) $$ Hp
  icases Hp with ⟨Hmine, HlL⟩
  rw [wp_ret]; imodintro
  iapply Hk
  isplitl [HO]; · iexact HO
  isplitl [Hc5]; · iexact Hc5
  isplitl [Hz3]; · iexact Hz3
  isplitl [Hmine] <;> iassumption

set_option maxHeartbeats 1600000 in
/-- Each landing added to the device's own rows, and the first send's wait. -/
theorem sound_part4 (c : Dev nD) (Q : PUnit → sProp 𝕄) :
    iprop((records m K ∗ levAts L lv ∗ ow c 0 ∗ own1 c mineM (xm m c)
        ∗ cred (tallyAt (cell c 6) () (amt 6)) ∗ atPos ER (cell c 6) 0 ∅ 0
        ∗ cred (tallyAt (cell c 7) () (amt 7)) ∗ atPos ER (cell c 7) 0 ∅ 0
        ∗ cred (tallyAt (cell c 4) () (amt 4)) ∗ atPos ER (cell c 4) 0 ∅ 0 ∗ anyOf c (top outM) ∗ anyOf c (bot outM))
      ∗ ((ow c 0 ∗ semVal (cell c 4) 0 ∗ semVal (cell c 6) 0 ∗ semVal (cell c 7) 0 ∗ anyOf c mineM ∗ anyOf c rcvM
          ∗ own1 c (top sndM) (sv0 m c) ∗ own1 c outM (outAt m c)) -∗ Q ⟨⟩))
      ⊢ wp frame (wpE (defs₀ (F := F)) 𝒱₀ (c : Thread nD τ) none) Set.univ (k0_part4 (Memref.whole main_arg0) (Memref.isWhole_whole _) (Memref.whole cc0_stg0_0) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    cc0_scratch4 cc0_scratch5 cc0_scratch6 cc0_scratch7 (w2 c) (w8 c) (w9 c)) Q := by
  simp only [k0_part4_eq_skeleton]; unfold k0_part4_skel
  simp only [semSignalWord, semWaitWord, Prog.lift, Prog.bind_op, Prog.bind_ret, Prog.pure_eq_ret, wp_deviceId]
  iintro ⟨⟨#HR, #HL, HO, Hmine, Hc6, Ha6, Hc7, Ha7, Hc4, Ha4, HoutA, HoutB⟩, Hk⟩
  ihave Hmine := (owns_split c mineM fullShare (xm m c)) $$ Hmine
  icases Hmine with ⟨HmA, HmB⟩
  -- the first landing, added to the device's own rows
  iapply (wait_dma_step m K c 6 rfl rfl 2 (le_refl _) (above_zero 2)) $$ [Hc6 HO Ha6]
  · isplitr; · iexact HR
    isplitr; · iexact HL
    isplitl [Hc6]; · iexact Hc6
    isplitl [HO] <;> iassumption
  iintro ⟨HO, Hz6, Hp⟩
  ihave HrA := (show pay m c 6 ⊢ own1 c (top rcvM) (sv0 m (pr c)) from .rfl) $$ Hp
  iapply (load_step c mineM rA (fun _ => rfl) _) $$ HmA
  iintro HmA
  iapply (load_step c rcvM rA (fun _ => rfl) _) $$ HrA
  iintro HrA
  ihave HoutA := (any_elim c _) $$ HoutA
  icases HoutA with ⟨%Y0, HoutA⟩
  iapply (load_step c outM rA (fun _ => rfl) Y0) $$ HoutA
  iintro HoutA
  iapply (store_step c outM rA (fun _ => rfl) Y0) $$ HoutA
  iintro HoutA
  -- the second landing, added to the device's own rows
  iapply (wait_dma_step m K c 7 rfl rfl 2 (le_refl _) (above_zero 2)) $$ [Hc7 HO Ha7]
  · isplitr; · iexact HR
    isplitr; · iexact HL
    isplitl [Hc7]; · iexact Hc7
    isplitl [HO] <;> iassumption
  iintro ⟨HO, Hz7, Hp⟩
  ihave HrB := (show pay m c 7 ⊢ own1 c (bot rcvM) (sv1 m (pr c)) from .rfl) $$ Hp
  iapply (load_step c mineM rB (fun _ => rfl) _) $$ HmB
  iintro HmB
  iapply (load_step c rcvM rB (fun _ => rfl) _) $$ HrB
  iintro HrB
  ihave HoutB := (any_elim c _) $$ HoutB
  icases HoutB with ⟨%Y1, HoutB⟩
  iapply (load_step c outM rB (fun _ => rfl) Y1) $$ HoutB
  iintro HoutB
  iapply (store_step c outM rB (fun _ => rfl) Y1) $$ HoutB
  iintro HoutB
  -- the send buffer back
  iapply (wait_dma_step (dst := top sndM) m K c 4 rfl rfl 0 (le_refl _) (above_zero 0)) $$ [Hc4 HO Ha4]
  · isplitr; · iexact HR
    isplitr; · iexact HL
    isplitl [Hc4]; · iexact Hc4
    isplitl [HO] <;> iassumption
  iintro ⟨HO, Hz4, Hp⟩
  ihave HsndA := (show pay m c 4 ⊢ own1 c (top sndM) (sv0 m c) from .rfl) $$ Hp
  rw [wp_ret]; imodintro
  iapply Hk
  isplitl [HO]; · iexact HO
  isplitl [Hz4]; · iexact Hz4
  isplitl [Hz6]; · iexact Hz6
  isplitl [Hz7]; · iexact Hz7
  isplitl [HmA HmB]
  · iapply (anyOf_of_halves c mineM _ _)
    isplitl [HmA] <;> iassumption
  isplitl [HrA HrB]
  · iapply (anyOf_of_halves c rcvM _ _)
    isplitl [HrA] <;> iassumption
  isplitl [HsndA]; · iexact HsndA
  iapply (owns_glue c outM fullShare (res0 m c) (res1 m c))
  isplitl [HoutA]; · iexact HoutA
  iexact HoutB

set_option maxHeartbeats 1600000 in
/-- The body, from `bodyPre` to `bodyPost`. -/
theorem sound_body (c : Dev nD) (Kt : PUnit → sProp 𝕄) :
    iprop(bodyPre m K c ∗ (bodyPost m c -∗ Kt ⟨⟩))
      ⊢ wp frame (wpE (defs₀ (F := F)) 𝒱₀ (c : Thread nD τ) none) Set.univ
          (cc0_body (Memref.whole main_arg0) (Memref.isWhole_whole _) (Memref.whole cc0_stg0_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scratch4 cc0_scratch5 cc0_scratch6 cc0_scratch7) Kt := by
  simp only [cc0_body_eq_skeleton]; unfold cc0_body_skel
  rw [wp_bind]
  unfold bodyPre posns payToks creds bufs
  rw [bigSep_eight]
  iintro ⟨⟨#HR, #HL, ⟨Ha0, Ha1, Ha2, Ha3, Ha4, Ha5, Ha6, Ha7⟩, ⟨Ht0, Ht1, Ht2, Ht3, Ht4, Ht5, Ht6, Ht7⟩, ⟨Hc0, Hc6, Hc7⟩, Harg,
    ⟨Hpf, Hmine, Hsnd, Hrcv⟩, HO, Hout⟩, Hk⟩
  ihave Harg := (arg_shares m c).1 $$ Harg
  icases Harg with ⟨HargL, HargR⟩
  ihave HargL := (lend0 m c).1 $$ HargL
  icases HargL with ⟨HlL, HrL⟩
  ihave HargR := (lend1 m c).1 $$ HargR
  icases HargR with ⟨HlR, HrR⟩
  ihave Hpf := (anyOf_halves c pfM) $$ Hpf
  icases Hpf with ⟨HpfA, HpfB⟩
  ihave Hsnd := (anyOf_halves c sndM) $$ Hsnd
  icases Hsnd with ⟨HsndA, HsndB⟩
  ihave Hrcv := (anyOf_halves c rcvM) $$ Hrcv
  icases Hrcv with ⟨HrA, HrB⟩
  ihave Hout := (anyOf_halves c outM) $$ Hout
  icases Hout with ⟨HoutA, HoutB⟩
  iapply (sound_part1 m K c _)
  isplitl [HO Ht0 Ht1 Ht2 HrA HrB HlL HpfA HlR HpfB]
  · isplitr; · iexact HR
    isplitl [HO]; · iexact HO
    isplitl [Ht0]; · iexact Ht0
    isplitl [Ht1]; · iexact Ht1
    isplitl [Ht2]; · iexact Ht2
    isplitl [HrA]; · iexact HrA
    isplitl [HrB]; · iexact HrB
    isplitl [HlL]; · iexact HlL
    isplitl [HpfA]; · iexact HpfA
    isplitl [HlR]; · iexact HlR
    iexact HpfB
  iintro ⟨HO, Hc1, Hc2⟩
  dsimp only
  rw [wp_bind]
  iapply (sound_part2 m K c _)
  isplitl [HO Hc1 Ha1 Hc0 Ha0 Hc2 Ha2 Ht4 Ht6 HsndA]
  · isplitr; · iexact HR
    isplitr; · iexact HL
    isplitl [HO]; · iexact HO
    isplitl [Hc1]; · iexact Hc1
    isplitl [Ha1]; · iexact Ha1
    isplitl [Hc0]; · iexact Hc0
    isplitl [Ha0]; · iexact Ha0
    isplitl [Hc2]; · iexact Hc2
    isplitl [Ha2]; · iexact Ha2
    isplitl [Ht4]; · iexact Ht4
    isplitl [Ht6]; · iexact Ht6
    iexact HsndA
  iintro ⟨HO, Hz0, Hz1, Hz2, HlL, HlR, HpfA, HpfB, Hc4, HpB⟩
  ihave HargL := (lend0 m c).2 $$ [HlL HrL]
  · isplitl [HlL] <;> iassumption
  ihave HargL := (lendM m c).1 $$ HargL
  icases HargL with ⟨HlL, HrL⟩
  rw [wp_bind]
  iapply (sound_part3 m K c _)
  isplitl [HO HsndB HpB Ht5 Ht7 Ht3 Ha3 HlL Hmine]
  · isplitr; · iexact HR
    isplitr; · iexact HL
    isplitl [HO]; · iexact HO
    isplitl [HsndB]; · iexact HsndB
    isplitl [HpB]; · iexact HpB
    isplitl [Ht5]; · iexact Ht5
    isplitl [Ht7]; · iexact Ht7
    isplitl [Ht3]; · iexact Ht3
    isplitl [Ha3]; · iexact Ha3
    isplitl [HlL]; · iexact HlL
    iexact Hmine
  iintro ⟨HO, Hc5, Hz3, Hmine, HlL⟩
  ihave HargL := (lendM m c).2 $$ [HlL HrL]
  · isplitl [HlL] <;> iassumption
  ihave HargR := (lend1 m c).2 $$ [HlR HrR]
  · isplitl [HlR] <;> iassumption
  ihave Harg := (arg_shares m c).2 $$ [HargL HargR]
  · isplitl [HargL] <;> iassumption
  rw [wp_bind]
  iapply (sound_part4 m K c _)
  isplitl [HO Hmine Hc6 Ha6 Hc7 Ha7 Hc4 Ha4 HoutA HoutB]
  · isplitr; · iexact HR
    isplitr; · iexact HL
    isplitl [HO]; · iexact HO
    isplitl [Hmine]; · iexact Hmine
    isplitl [Hc6]; · iexact Hc6
    isplitl [Ha6]; · iexact Ha6
    isplitl [Hc7]; · iexact Hc7
    isplitl [Ha7]; · iexact Ha7
    isplitl [Hc4]; · iexact Hc4
    isplitl [Ha4]; · iexact Ha4
    isplitl [HoutA]; · iexact HoutA
    iexact HoutB
  iintro ⟨HO, Hz4, Hz6, Hz7, Hmine, Hrcv, HsndA, Hout⟩
  simp only [semSignalWord, semWaitWord, Prog.lift, Prog.bind_op, Prog.bind_ret, Prog.pure_eq_ret]
  iapply (wait_dma_step (dst := bot sndM) m K c 5 rfl rfl 0 (le_refl _) (above_zero 0)) $$ [Hc5 HO Ha5]
  · isplitr; · iexact HR
    isplitr; · iexact HL
    isplitl [Hc5]; · iexact Hc5
    isplitl [HO] <;> iassumption
  iintro ⟨HO, Hz5, Hp⟩
  ihave HsndB := (show pay m c 5 ⊢ own1 c (bot sndM) (sv1 m c) from .rfl) $$ Hp
  rw [wp_ret]; imodintro
  iapply Hk
  unfold bodyPost zeros bufs
  rw [bigSep_eight]
  isplitl [Hz0 Hz1 Hz2 Hz3 Hz4 Hz5 Hz6 Hz7]
  · isplitl [Hz0]; · iexact Hz0
    isplitl [Hz1]; · iexact Hz1
    isplitl [Hz2]; · iexact Hz2
    isplitl [Hz3]; · iexact Hz3
    isplitl [Hz4]; · iexact Hz4
    isplitl [Hz5]; · iexact Hz5
    isplitl [Hz6] <;> iassumption
  isplitl [Harg]; · iexact Harg
  isplitl [HpfA HpfB Hmine HsndA HsndB Hrcv]
  · isplitl [HpfA HpfB]
    · iapply (anyOf_of_halves c pfM _ _)
      isplitl [HpfA] <;> iassumption
    isplitl [Hmine]; · iexact Hmine
    isplitl [HsndA HsndB]
    · iapply (anyOf_of_halves c sndM _ _)
      isplitl [HsndA] <;> iassumption
    · iexact Hrcv
  isplitl [HO]; · iexact HO
  iexact Hout

end Body

end Cert.IdlRun
-- ==== Proof.Idl.Ghost.lean ====
/-
The launch's ghost state: from the sixteen devices' semaphores at zero to every cell's invariant, each device with its
positions, the tokens of the duties it pays, and its credit for what its peer pays.
-/
module

public import proofs.«01_k».proof.Proof.Idl.Body

@[expose] public section

noncomputable section

namespace Cert.IdlRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The cells and their tokens -/

/-- Different devices or numbers give different cells. -/
theorem cells_inj : Function.Injective fun ck : Dev nD × Fin 8 => cell ck.1 ck.2 :=
  fun _ _ h => Prod.ext (cell_injective h).1 (cell_injective h).2
/-- Different devices or numbers give different duties. -/
theorem duties_inj : Function.Injective fun ck : Dev nD × Fin 8 => ((cell ck.1 ck.2, 0, ()) : GSem nD τ sig × ℕ × Unit) :=
  fun _ _ h => cells_inj (congrArg Prod.fst h)

def allCells : Finset (GSem nD τ sig) := Finset.univ.map ⟨_, cells_inj⟩
def allToks : Finset (GSem nD τ sig × ℕ × Unit) := Finset.univ.map ⟨_, duties_inj⟩

/-- The launch's element: the staging cells' and the kernel's. -/
def u₀ : UU :=
  (initOf (Pipeline.cells cfgs cellOf_inj) (Pipeline.launchToks cfgs cellOf_inj), initOf allCells allToks)

/-- A conjunction over all cells goes device by device, cell by cell. -/
theorem over_cells (Φ : GSem nD τ sig → sProp 𝕄) :
    bigSep allCells Φ = bigSep Finset.univ fun c : Dev nD => bigSep Finset.univ fun k : Fin 8 => Φ (cell c k) := by
  unfold allCells; rw [bigSep_map, bigSep_univ_prod]; rfl
/-- A conjunction over all duties goes device by device, cell by cell. -/
theorem over_toks (Φ : GSem nD τ sig × ℕ × Unit → sProp 𝕄) :
    bigSep allToks Φ = bigSep Finset.univ fun c : Dev nD => bigSep Finset.univ fun k : Fin 8 => Φ (cell c k, 0, ()) := by
  unfold allToks; rw [bigSep_map, bigSep_univ_prod]; rfl

/-- What a device's cells start with, before the tokens are dealt to their payers. -/
def seats (c : Dev nD) : sProp 𝕄 := bigSep Finset.univ fun k : Fin 8 => iprop(atPos ER (cell c k) 0 ∅ 0 ∗ reached ER (cell c k) 0)
def minted (c : Dev nD) : sProp 𝕄 := bigSep Finset.univ fun k : Fin 8 => dutyTok ER (cell c k) 0 ()

def G (c : Dev nD) : sProp 𝕄 :=
  iprop((bigSep Finset.univ fun k : Fin 8 => roundState ER (rd m) (cell c k) 0) ∗ seats c ∗ minted c)

/-- What it starts with after. -/
def dealt (K : Dev nD × Fin 8 → ℕ) (c : Dev nD) : sProp 𝕄 := iprop(records m K ∗ posns c ∗ payToks c)
def G' (c : Dev nD) : sProp 𝕄 := iprop(∃ K, dealt m K c)

/-- The launch's element gives every device its cells' round states, their first positions and their duties' tokens. -/
theorem fund_cells : BI.own (ER (initOf allCells allToks)) ⊢ (|==> bigSep Finset.univ (G m) : sProp 𝕄) := by
  iintro HX
  imod (Rounds.fund ER (rd m) allCells allToks) $$ HX with ⟨Hst, Hr, Hat, Htok⟩
  imodintro
  ihave Hst := (Entails.of_eq (over_cells fun g => roundState ER (rd m) g 0)) $$ Hst
  ihave Hat := (Entails.of_eq (over_cells fun g => atPos ER g 0 ∅ 0)) $$ Hat
  ihave Hr := (Entails.of_eq (over_cells fun g => reached ER g 0)) $$ Hr
  ihave Htok := (Entails.of_eq (over_toks fun x => dutyTok ER x.1 x.2.1 x.2.2)) $$ Htok
  unfold G seats minted; simp only [bigSep_sep']
  isplitl [Hst]; · iexact Hst
  isplitl [Hat Hr]
  · isplitl [Hat] <;> iassumption
  iexact Htok

/-! ## The semaphores at zero become invariants -/

/-- The kernel's own semaphores: the eight without the barrier. -/
def osem (k : Fin 7) : SemLoc sig := csem k.succ

/-- The counters of the seven semaphores that the call allocates, written out. -/
theorem own_zeros (c : Dev nD) :
    (Pipeline.ownSems0 (Ix := Unit) (Name := ℕ) (U := UU) (Lvl := ℕ) (Val := Elt F) (τ := τ) osem c : sProp 𝕄)
      = iprop(semVal (cell c 1) 0 ∗ semVal (cell c 2) 0 ∗ semVal (cell c 3) 0 ∗ semVal (cell c 4) 0 ∗ semVal (cell c 5) 0
          ∗ semVal (cell c 6) 0 ∗ semVal (cell c 7) 0) := by
  rw [Pipeline.ownSems0_eq_of_list c osem [0, 1, 2, 3, 4, 5, 6] (by decide) (by decide)]; rfl

/-- The one counter that the call doesn't allocate is the barrier's. -/
theorem bar_zero (c : Dev nD) : (unscopedSems0 c : sProp 𝕄) = semVal (cell c 0) 0 := by
  unfold unscopedSems0; rw [bigSep_eq_bigSepL_of_eq [SemLoc.reg barS] (by decide) (by decide)]; rfl

/-- The eight counters at zero are the barrier's and the seven others. -/
theorem zeros_eq (c : Dev nD) :
    (zeros c : sProp 𝕄)
      = iprop(unscopedSems0 c ∗ Pipeline.ownSems0 (Ix := Unit) (Name := ℕ) (U := UU) (Lvl := ℕ) (Val := Elt F) (τ := τ) osem c) := by
  unfold zeros; rw [own_zeros, bar_zero, bigSep_eight]

/-- One device's cells, allocated. -/
theorem open_device (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 8 => iprop(∃ κ : ℕ, cellInv ER (rd m) κ (cell c k))) ∗ seats c ∗ minted c) := by
  unfold G
  iintro ⟨Hos, Hus, Hst, Hat, Htok⟩
  ihave Hv := (Entails.of_eq (zeros_eq (F := F) c).symm) $$ [Hos Hus]
  · isplitl [Hus] <;> iassumption
  unfold zeros
  imod (show iprop((bigSep Finset.univ fun k : Fin 8 => semVal (cell c k) 0) ∗ bigSep Finset.univ fun k : Fin 8 => roundState ER (rd m) (cell c k) 0)
      ⊢ (|={Set.univ}=> bigSep Finset.univ fun k : Fin 8 => iprop(∃ κ : ℕ, cellInv ER (rd m) κ (cell c k)) : sProp 𝕄) from by
        rw [← bigSep_sep']
        exact (bigSep_mono fun k _ => (Rounds.body_intro ER (rd m) (cell c k)).trans inv_alloc).trans (bigSep_fupd _ _)) $$ [Hv Hst] with Hinv
  · isplitl [Hv] <;> iassumption
  imodintro
  isplitl [Hinv]; · iexact Hinv
  isplitl [Hat] <;> iassumption

/-! ## The tokens to their payers -/

/-- The barrier's token and the two landings' go to the peer; the rest stay. -/
theorem deal_tokens : (bigSep Finset.univ fun c : Dev nD => (minted c : sProp 𝕄)) ⊢ bigSep Finset.univ fun c : Dev nD => payToks c := by
  unfold minted payToks
  simp only [bigSep_eight, bigSep_sep']
  rw [bigSep_univ_equiv swap (fun c : Dev nD => (dutyTok ER (cell c 0) 0 () : sProp 𝕄)),
    bigSep_univ_equiv swap (fun c : Dev nD => (dutyTok ER (cell c 6) 0 () : sProp 𝕄)),
    bigSep_univ_equiv swap (fun c : Dev nD => (dutyTok ER (cell c 7) 0 () : sProp 𝕄))]
  exact .rfl

/-- Something every device may have, added to what each has. -/
theorem share_out {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ :=
  (sep_mono_left (BI.bigSep_of_persistent Finset.univ R)).trans (by rw [← bigSep_sep']; exact bigSep_mono fun c _ => h c)

/-- A device's records, positions and tokens are what it starts with. -/
theorem dealt_intro (K : Dev nD × Fin 8 → ℕ) (c : Dev nD) : iprop(records m K ∗ posns c ∗ payToks c) ⊢ G' m c := by
  unfold G' dealt
  iintro H
  iexists K
  iexact H

/-- With every cell's invariant in place the tokens go to their payers: the barrier's and the landings' to the peer. -/
theorem deal :
    (bigSep Finset.univ fun c : Dev nD =>
        iprop((bigSep Finset.univ fun k : Fin 8 => iprop(∃ κ : ℕ, cellInv ER (rd m) κ (cell c k))) ∗ seats c ∗ minted c) : sProp 𝕄)
      ⊢ bigSep Finset.univ (G' m) := by
  unfold seats
  rw [bigSep_sep', bigSep_sep', ← bigSep_univ_prod (fun ck : Dev nD × Fin 8 => iprop(∃ κ : ℕ, cellInv ER (rd m) κ (cell ck.1 ck.2))),
    bigSep_congr (s := Finset.univ) (fun (c : Dev nD) _ => bigSep_sep' Finset.univ (fun k : Fin 8 => (atPos ER (cell c k) 0 ∅ 0 : sProp 𝕄)) (fun k => reached ER (cell c k) 0)),
    bigSep_sep', ← bigSep_univ_prod (fun ck : Dev nD × Fin 8 => (reached ER (cell ck.1 ck.2) 0 : sProp 𝕄))]
  iintro ⟨HI, ⟨Hat, #HR⟩, Htok⟩
  ihave HK := (BI.bigSep_exists_pi Finset.univ (fun (ck : Dev nD × Fin 8) (κ : ℕ) => (cellInv ER (rd m) κ (cell ck.1 ck.2) : sProp 𝕄))) $$ HI
  icases HK with ⟨%K, #HI⟩
  ihave Htk := (deal_tokens (F := F)) $$ Htok
  iapply (share_out (R := records m K) fun c => dealt_intro m K c)
  isplitr
  · unfold records; isplitl; · iexact HI
    iexact HR
  · rw [bigSep_sep']
    isplitl [Hat]; · unfold posns; iexact Hat
    iexact Htk

/-- All the devices' semaphores at once. -/
theorem glob :
    (bigSep Finset.univ fun c => iprop(Pipeline.ownSems0 (Ix := Unit) (Name := ℕ) (U := UU) (Lvl := ℕ) (Val := Elt F) (τ := τ) osem c
        ∗ unscopedSems0 c ∗ G m c) : sProp 𝕄)
      ⊢ |={Set.univ}=> bigSep Finset.univ (G' m) :=
  ((bigSep_mono fun c _ => open_device m c).trans (bigSep_fupd _ _)).trans (BI.fupd_mono (deal m))

/-! ## The credit -/

/-- The three cells of `c` that its peer pays. -/
theorem tally_at (d c : Dev nD) (j k : Fin 8) :
    (tallyAt (cell (pr d) j) () (amt j) : CellTallies nD τ sig Unit) (cell c k) () = if d = pr c ∧ j = k then amt k else 0 := by
  rw [tallyAt_apply]
  by_cases h : d = pr c ∧ j = k
  · obtain ⟨rfl, rfl⟩ := h
    rw [pr_pr, if_pos ⟨rfl, rfl⟩, if_pos ⟨rfl, rfl⟩]
  · rw [if_neg h, if_neg]
    rintro ⟨h1, -⟩
    obtain ⟨h2, h3⟩ := cell_injective h1
    exact h ⟨by rw [h2, pr_pr], h3.symm⟩

/-- What a device owes to a cell that a peer pays: the cell's whole payment if it is the peer, nothing otherwise. -/
theorem owed_at (d c : Dev nD) (k : Fin 8) (hk : k = 0 ∨ k = 6 ∨ k = 7) : O₀ d (cell c k) () = if d = pr c then amt k else 0 := by
  unfold O₀ O₁ O₂
  rw [Pi.add_apply, Finsupp.add_apply, Pi.add_apply, Finsupp.add_apply, tally_at, tally_at, tally_at]
  by_cases h : d = pr c
  · rcases hk with rfl | rfl | rfl <;> simp [h]
  · simp [h]

/-- The launch's credit for a cell that the peer pays is the cell's payment. -/
theorem credit_at (c : Dev nD) (k : Fin 8) (hk : k = 0 ∨ k = 6 ∨ k = 7) :
    tallyOn (cell c k) (launchCredit (Pipeline.owing O₀) 0 (cell c k)) = (tallyAt (cell c k) () (amt k) : CellTallies nD τ sig Unit) := by
  unfold tallyAt; refine congrArg _ (Finsupp.ext fun u => ?_); cases u
  rw [Pipeline.launchCredit_owing, Finsupp.single_eq_same, Finset.sum_congr rfl fun d _ => owed_at d c k hk,
    Finset.sum_ite_eq' Finset.univ (pr c) fun _ => amt k, if_pos (Finset.mem_univ _)]

/-- The launch's credit gives a device that of its barrier and its two landings. -/
theorem credits (c : Dev nD) : (Pipeline.launchCred O₀ c : sProp 𝕄) ⊢ creds c := by
  unfold Pipeline.launchCred creds
  rw [bigSep_univ_at _ (csem 0), credit_at c 0 (Or.inl rfl)]
  refine sep_mono_right ?_
  rw [← credit_at c 6 (Or.inr (Or.inl rfl)), ← credit_at c 7 (Or.inr (Or.inr rfl))]
  rw [bigSep_erase (i := csem 6) (Finset.mem_erase.mpr ⟨fun h => absurd (csem_injective h) (by decide), Finset.mem_univ _⟩)]
  refine sep_mono_right ?_
  exact bigSep_elim (Finset.mem_erase.mpr ⟨fun h => absurd (csem_injective h) (by decide),
    Finset.mem_erase.mpr ⟨fun h => absurd (csem_injective h) (by decide), Finset.mem_univ _⟩⟩)

end Cert.IdlRun
-- ==== Proof.Idl.Launch.lean ====
/-
The run of the sixteen devices, from any memory with the semaphores at zero: it terminates with the result array of
device `c` at `outAt m c`, the argument unchanged and every semaphore at zero.
-/
module

public import proofs.«01_k».proof.Proof.Idl.Ghost
public import proofs.«01_k».proof.Proof.Gen.KernelIdeal.Launch
public import proofs.«01_k».proof.Proof.Gen.KernelIdeal.Points
public import Idealize.ShloMosaic.Lib.Pipeline.CollectiveSegs
public import Idealize.ShloMosaic.Lib.Pipeline.ValueKit

@[expose] public section

noncomputable section

namespace Cert.IdlRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's data -/

/-- What device `c` starts from beside its scratch buffers. -/
def start (c : Dev nD) : sProp 𝕄 := iprop(G' m c ∗ creds c ∗ levAts L lv ∗ argPts m c fullShare)
def Φ₀ (c : Dev nD) : sProp 𝕄 := iprop(start m c ∗ bufs c)
def Φ₁ (c : Dev nD) : sProp 𝕄 := iprop(zeros c ∗ argPts m c fullShare ∗ bufs c)

def dats (_ : Fin 1) (c : Dev nD) : Dat τ (Elt F) Unit ℕ UU ℕ cfg0 c where
  A w := m ((cfg0.win w).arr.view.loc (c : Thread nD τ))
  after w _ := match w with
    | ⟨0, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-- A scratch buffer at some contents. -/
theorem any_whole (c : Dev nD) (b : Ref sig .tc) :
    (anyOf c (Memref.whole b) : sProp 𝕄) = iprop(∃ f : Buf (Elt F) ((c : Thread nD τ).loc b), ((c : Thread nD τ).loc b) ↦{fullShare} f) := by
  unfold anyOf own1
  simp only [owns_whole]

/-- The four scratch buffers at some contents are all that the call allocates beside the result's staging buffer. -/
theorem bufs_eq (c : Dev nD) :
    (bufs c : sProp 𝕄) = Pipeline.scopedRest (Ix := Unit) (Name := ℕ) (U := UU) (Lvl := ℕ) (Val := Elt F) cfg0.spec c := by
  rw [scopedRest0_eq]; unfold bufs; simp only [any_whole]

/-! ## The body obligation -/

/-- The body, from the pipeline's entry state to its exit state. -/
theorem body_at (c : Dev nD) (X : S256x256.Idx → Elt F .bf16) (Q : sProp 𝕄)
    (hQ : iprop(Φ₁ m c ∗ ow c 0 ∗ own1 c outM (outAt m c)) ⊢ Q) :
    iprop(Φ₀ m c ∗ ow c (O₀ c) ∗ own1 c outM X)
      ⊢ wp frame (wpE (defs₀ (F := F)) 𝒱₀ (c : Thread nD τ) none) Set.univ (bodyAt0 t0_0) (fun _ => Q) := by
  unfold Φ₀ start G' dealt
  iintro ⟨⟨⟨⟨%K, HR, Hp, Ht⟩, Hc, HL, Harg⟩, Hb⟩, HO, Hout⟩
  iapply (sound_body m K c fun _ => Q)
  unfold bodyPre bodyPost
  isplitl
  · isplitl [HR]; · iexact HR
    isplitl [HL]; · iexact HL
    isplitl [Hp]; · iexact Hp
    isplitl [Ht]; · iexact Ht
    isplitl [Hc]; · iexact Hc
    isplitl [Harg]; · iexact Harg
    isplitl [Hb]; · iexact Hb
    isplitl [HO]; · iexact HO
    unfold anyOf
    iexists X
    iexact Hout
  · iintro ⟨Hz, Harg, Hb, HO, Hout⟩
    iapply hQ
    unfold Φ₁
    isplitl [Hz Harg Hb]
    · isplitl [Hz]; · iexact Hz
      isplitl [Harg] <;> iassumption
    isplitl [HO] <;> iassumption

/-- The library's body obligation on device `c`. -/
theorem body_obligation (c : Dev nD) : BodyObligation (dats m 0 c) (defs₀ (F := F)) 𝒱₀ () Set.univ := fun t => by
  rw [fin_N0 t, bigSep_W0, bigSep_W0]
  show iprop(Φ₀ m c ∗ (dats m 0 c).owesAt () t0_0.castSucc
      ∗ (∃ d, own1 c outM ((dats m 0 c).before (0 : Fin 1) t0_0 d)))
    ⊢ wp frame (wpE (defs₀ (F := F)) 𝒱₀ (c : Thread nD τ) none) Set.univ (bodyAt0 t0_0)
        (fun _ => iprop(Φ₁ m c ∗ (dats m 0 c).owesAt () t0_0.succ ∗ own1 c outM (outAt m c)))
  unfold Dat.owesAt Pipeline.owesWithin
  iintro ⟨HΦ, ⟨%W, -, HO⟩, ⟨%d, Hout⟩⟩
  iapply (body_at m c _ _ (by
    unfold ow
    iintro ⟨HΦ, ⟨%W', HO⟩, Hout⟩
    isplitl [HΦ]; · iexact HΦ
    isplitl [HO]
    · iexists W'
      isplitr; · (ipureintro; exact fun _ _ => Or.inl trivial)
      iexact HO
    iexact Hout))
  isplitl [HΦ]; · iexact HΦ
  isplitl [HO]
  · unfold ow
    iexists W
    iexact HO
  iexact Hout

/-! ## The theorem's side conditions -/

/-- The call's own semaphores are the seven named ones, each once, and none serves the staging of the result. -/
theorem ownSemFacts : Pipeline.OwnSemFacts cfg0.spec osem := by decide

/-- The pipeline holds every array whole. -/
theorem share_eq (c : Dev nD) (w : Fin cfg0.W) : (dats m 0 c).share w = fullShare := by unfold Dat.share; split <;> rfl

/-- The waits of the result's copy out are allowed, since nothing is owed by then or all that is owed lies above. -/
theorem waits (c : Dev nD) : (levAts L lv : sProp 𝕄) ⊢ Pipeline.cellsWaits cfgs (dats m) () 0 c :=
  Pipeline.cellsWaits_intro cfgs (dats m) () 0 c fun w s t =>
    may_wait c _ 0 (by
      fin_cases w; fin_cases s
      show ((kindOf (SemLoc.dma (win0_0.sem 0))).map level).getD 0 ≤ 0
      decide) (by
      rcases t with ⟨_ | _, ht⟩
      · exact above_O₀ c (by decide)
      · exact above_zero 0)

/-- The argument is the one buffer beside the scratch and the result. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨Harg, Hlev, Hcr, -, HG⟩
  ihave Hc := (credits (F := F) c) $$ Hcr
  imodintro
  unfold start argPts arg
  isplitl
  · isplitl [HG]; · iexact HG
    isplitl [Hc]; · iexact Hc
    isplitl [Hlev]; · iexact Hlev
    iexact Harg
  · iempintro

/-- What a device starts from and its scratch buffers make the first assertion. -/
theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  show _ ⊢ Φ₀ m c
  rw [← bufs_eq]
  unfold Φ₀
  iintro ⟨Hs, -, Hb⟩
  isplitl [Hs] <;> iassumption

/-- What is read at the end: the barrier at zero and the argument. -/
def last (c : Dev nD) : sProp 𝕄 := iprop(unscopedSems0 c ∗ argPts m c fullShare)

/-- The last assertion gives the argument, the semaphores at zero and the scratch buffers back. -/
theorem leave (c : Dev nD) :
    (dats m 0 c).Φ (Fin.last cfg0.N) ⊢ iprop(last m c ∗ Pipeline.ownSems0 osem c ∗ Pipeline.scopedRest cfg0.spec c) := by
  show Φ₁ m c ⊢ _
  rw [← bufs_eq]
  unfold Φ₁ last
  rw [zeros_eq]
  iintro ⟨⟨Hu, Ho⟩, Harg, Hb⟩
  isplitl [Hu Harg]
  · isplitl [Hu] <;> iassumption
  isplitl [Ho] <;> iassumption

def atEnd (c : Dev nD) (s : MemSt nD τ sig (Elt F)) : Prop :=
  (∀ sm : SemLoc sig, sm.isScoped .tc = false → s.sem ((c : Thread nD τ), sm) = 0)
    ∧ s.mem ((c : Thread nD τ).loc main_arg0) = m ((c : Thread nD τ).loc main_arg0)

/-- Holding the argument at its contents at launch tells what memory holds there. -/
theorem read_end (c : Dev nD) (s' : Phys nD τ sig (Elt F)) :
    iprop(last m c ∗ emp ∗ SI s') ⊢ |={Set.univ}=> iprop(⌜atEnd m c s'.mem⌝ ∗ SI s' : sProp 𝕄) := by
  unfold last argPts
  iintro ⟨⟨Hu, Harg⟩, -, HSI⟩
  imod (Pipeline.unscopedSems0_read (X := unscopedSems0 c) (c := c) fupd_intro s') $$ [Hu HSI] with ⟨%hz, HSI⟩
  · isplitl [Hu] <;> iassumption
  icombine HSI Harg gives %ha
  imodintro
  isplitr
  · ipureintro; exact ⟨hz, Buf.eq_of_forall_mem_univ ha⟩
  iexact HSI

/-! ## The run -/

def finalA (c : Dev nD) (w : Fin cfg0.W) : Buf (Elt F) ((cfg0.win w).arr.view.loc (c : Thread nD τ)) := (dats m 0 c).arrAt w cfg0.N

/-- The one point writes the whole result array. -/
theorem final_out (c : Dev nD) : finalA m c (0 : Fin 1) = outAt m c := by
  unfold finalA
  refine (dats m 0 c).arrAt_eq_of_after_last 0 t0_0 (by decide +kernel) _ fun j => ?_
  blk_simp
  rfl

set_option maxRecDepth 8000 in
/-- Every weakly fair execution of the sixteen kernels terminates, with each device's result at its computed contents,
    its argument unchanged and every semaphore at zero. -/
theorem run_main :
    θ_run defs (onTc (τ := τ) (main (F := F))) ⟨m, fun _ => 0, ρ⟩
      (fun r => (∀ c : Dev nD, r.2.mem ((c : Thread nD τ).loc main_v1) = outAt m c
          ∧ r.2.mem ((c : Thread nD τ).loc main_arg0) = m ((c : Thread nD τ).loc main_arg0)) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w; exact Nat.succ_pos _) (harr := arr_whole0) (hstage := stage_whole0)
    (hshare := share_eq m) (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := last m) (Z := fun _ => iprop(emp))
    (hX := start_intro m ρ) (hin := enter m) (hout := leave m)
    (QY := atEnd m) (hY := read_end m)
    (hQ := fun s h hs => ⟨fun c => ⟨((h c).1 (0 : Fin 1)).trans (final_out m c), (h c).2.2.2⟩, sem_eq_zero hs fun c => (h c).2.2.1⟩)

end Cert.IdlRun
-- ==== Proof.Columns.lean ====
/-
What a device stores, read at an index, over the extended reals: with the device at mesh coordinate y, its own argument
plus its peer's argument, both at columns 256·y onwards.
-/
module

public import proofs.«01_k».proof.Proof.Idl.Schedule
public import Idealize.ShloMosaic.Lib.Pointwise

@[expose] public section

noncomputable section

namespace Cert.IdlRun

open Cert.KernelIdeal Cert.KernelIdeal.Gen
open Idealize.ShloMosaic Idealize.ShloMosaic.TcCoe

variable (m : (ℓ : Loc nD τ sig) → Buf (Elt Ideal) ℓ)

/-- A device's coordinate on the mesh axis the arrays are cut along. -/
def yOf (c : Dev nD) : ℕ := (c.val / 4) % 2

/-- A y coordinate is 0 or 1. -/
theorem yOf_lt (c : Dev nD) : yOf c < 2 := Nat.mod_lt _ (by decide)
/-- The peer has the other y coordinate. -/
theorem yOf_pr (c : Dev nD) : yOf (pr c) = 1 - yOf c := by revert c; decide

/-- Where an element of column block `y` is in the argument. -/
def spot (y : ℕ) (i : S256x256.Idx) : S1x256x512.Idx := fun a => match a with
  | ⟨0, _⟩ => (0 : Fin 1)
  | ⟨1, _⟩ => (⟨(i 0).val, (i 0).isLt⟩ : Fin 256)
  | ⟨2, _⟩ => (⟨256 * (y % 2) + (i 1).val, by have h : (i 1).val < 256 := (i 1).isLt; omega⟩ : Fin 512)

/-- An index of the argument is its row and its column. -/
theorem spot_of {y : ℕ} {i : S256x256.Idx} {p : S1x256x512.Idx} (h1 : (p 1).val = (i 0).val) (h2 : (p 2).val = 256 * (y % 2) + (i 1).val) : p = spot y i := by
  funext a
  apply Fin.ext
  have h0 : (p 0).val < 1 := (p 0).isLt
  match a with
  | ⟨0, _⟩ => show (p 0).val = 0; omega
  | ⟨1, _⟩ => exact h1
  | ⟨2, _⟩ => exact h2

/-- The copy of the device's own columns. -/
theorem xm_apply (c : Dev nD) (i : S256x256.Idx) : xm m c i = arg m c (spot (yOf c) i) := by
  have hy := yOf_lt c
  show arg m c ((Rect.unit (s := S1x256x512) (k0_off3 c) S1x256x256.size (k0_off3_inb c)).emb
    (Shape.reshapeEquiv squeezes_S1x256x256_S256x256.numel_eq i)) = _
  refine congrArg (arg m c) (spot_of ?_ ?_)
  · rw [Rect.emb_apply]
    simp only [k0_off3_eq]
    pointwise
  · rw [Rect.emb_apply]
    simp only [k0_off3_eq]
    pointwise
    unfold yOf; omega

/-- The copy of the peer's columns, upper half. -/
theorem xp0_apply (d : Dev nD) (j : S256x256.Idx) (hj : (j 0).val < 128) : xp0 m d (fold j) = arg m d (spot (yOf (pr d)) j) := by
  have h1 : (j 1).val < 256 := (j 1).isLt
  show arg m d ((Rect.unit (s := S1x256x512) (k0_off1 d) S1x128x256.size (k0_off1_inb d)).emb
    (Shape.reshapeEquiv squeezes_S1x128x256_S128x256.numel_eq (fold j))) = _
  refine congrArg (arg m d) (spot_of ?_ ?_)
  · rw [Rect.emb_apply]
    simp only [k0_off1_eq]
    pointwise
    show (j 0).val % 128 = _
    omega
  · rw [Rect.emb_apply, yOf_pr]
    simp only [k0_off1_eq]
    pointwise
    show _ + (j 1).val % 256 = _
    unfold yOf; omega

/-- The copy of the peer's columns, lower half. -/
theorem xp1_apply (d : Dev nD) (j : S256x256.Idx) (hj : ¬ (j 0).val < 128) : xp1 m d (fold j) = arg m d (spot (yOf (pr d)) j) := by
  have h0 : (j 0).val < 256 := (j 0).isLt
  have h1 : (j 1).val < 256 := (j 1).isLt
  show arg m d ((Rect.unit (s := S1x256x512) (k0_off2 d) S1x128x256.size (k0_off2_inb d)).emb
    (Shape.reshapeEquiv squeezes_S1x128x256_S128x256.numel_eq (fold j))) = _
  refine congrArg (arg m d) (spot_of ?_ ?_)
  · rw [Rect.emb_apply]
    simp only [k0_off2_eq]
    pointwise
    show 128 + (j 0).val % 128 = _
    omega
  · rw [Rect.emb_apply, yOf_pr]
    simp only [k0_off2_eq]
    pointwise
    show _ + (j 1).val % 256 = _
    unfold yOf; omega

/-- An index is where its half puts its place in the half. -/
theorem up_fold (j : S256x256.Idx) (hj : (j 0).val < 128) : rA.emb (fold j) = j := by
  have h1 : (j 1).val < 256 := (j 1).isLt
  funext a
  apply Fin.ext
  rw [Rect.emb_apply]
  match a with
  | ⟨0, _⟩ => show 0 + 1 * ((j 0).val % 128) = (j 0).val; omega
  | ⟨1, _⟩ => show 0 + 1 * ((j 1).val % 256) = (j 1).val; omega
/-- An index of the lower half is where the lower half puts its place in the half. -/
theorem down_fold (j : S256x256.Idx) (hj : ¬ (j 0).val < 128) : rB.emb (fold j) = j := by
  have h0 : (j 0).val < 256 := (j 0).isLt
  have h1 : (j 1).val < 256 := (j 1).isLt
  funext a
  apply Fin.ext
  rw [Rect.emb_apply]
  match a with
  | ⟨0, _⟩ => show 128 + 1 * ((j 0).val % 128) = (j 0).val; omega
  | ⟨1, _⟩ => show 0 + 1 * ((j 1).val % 256) = (j 1).val; omega

/-- The payloads: at the extended reals the roundings are the identity, so one passes its operand on and one adds. -/
theorem sv0_apply (c : Dev nD) (i : S128x256.Idx) : sv0 m c i = xp0 m c i := by
  unfold sv0 k0_pay1; rw [shapeCast_self]; rfl
/-- What a device sends of the last 128 rows is what it copied of them. -/
theorem sv1_apply (c : Dev nD) (i : S128x256.Idx) : sv1 m c i = xp1 m c i := by
  unfold sv1 k0_pay3 k0_pay2; rw [shapeCast_self]; rfl
/-- What a device stores of the first 128 rows is its own columns plus what the peer sent. -/
theorem res0_apply (c : Dev nD) (i : S128x256.Idx) : res0 m c i = (xm m c (rA.emb i) + sv0 m (pr c) i : EReal) := rfl
/-- What a device stores of the last 128 rows is its own columns plus what the peer sent. -/
theorem res1_apply (c : Dev nD) (i : S128x256.Idx) : res1 m c i = (xm m c (rB.emb i) + sv1 m (pr c) i : EReal) := rfl

/-- The argument's element as an extended real. -/
def argAt (c : Dev nD) (p : S1x256x512.Idx) : EReal := arg m c p

/-- A device's result is its column block of its own argument plus its peer's. -/
theorem outAt_apply (c : Dev nD) (j : S256x256.Idx) :
    outAt m c j = argAt m c (spot (yOf c) j) + argAt m (pr c) (spot (yOf c) j) := by
  unfold outAt glue argAt
  by_cases hj : (j 0).val < 128
  · rw [if_pos hj, res0_apply, up_fold j hj, xm_apply, sv0_apply, xp0_apply m (pr c) j hj, pr_pr]
  · rw [if_neg hj, res1_apply, down_fold j hj, xm_apply, sv1_apply, xp1_apply m (pr c) j hj, pr_pr]

end Cert.IdlRun
-- ==== Proof.Equation.lean ====
/-
The reference's value over the extended reals, and that each device's result is its column block of it.
-/
module

public import proofs.«01_k».proof.Proof.Columns
public import proofs.«01_k».proof.Proof.Gen.ReferenceIdeal.Run
public import Idealize.ShloMosaic.Lib.Layout
public import Idealize.ShloMosaic.Lib.IdealHost

@[expose] public section

noncomputable section

namespace Cert.Equation

open Idealize.ShloMosaic Idealize.ShloMosaic.TcCoe
open Cert.ReferenceIdeal Cert.ReferenceIdeal.Gen

/-- The reference's result of the whole array `X`. -/
def ref (X : S2x256x512.Idx → EReal) : S256x512.Idx → EReal :=
  truncf (F := Ideal) .bf16 (Host.reduceAdd (F := Ideal) (φ := .f32) X (constant (F := Ideal) S_ .f32 0x00000000#32) reducesTo_S2x256x512_S256x512_d0 h_S_) bitsLt_bf16_f32

/-- It is the sum of the array's two planes. -/
theorem ref_apply (X : S2x256x512.Idx → EReal) (j : S256x512.Idx) : ref X j = X (ix3 0 (j 0) (j 1)) + X (ix3 1 (j 0) (j 1)) := by
  show Host.reduceAdd (F := Ideal) (φ := .f32) X (constant (F := Ideal) S_ .f32 0x00000000#32) reducesTo_S2x256x512_S256x512_d0 h_S_ j = _
  pointwise
  exact Fin.sum_univ_two _

open Cert.KernelIdeal (τ sig nD)
open Cert.IdlRun (yOf pr spot argAt outAt)

variable (m : (ℓ : Loc Cert.KernelIdeal.nD Cert.KernelIdeal.τ Cert.KernelIdeal.sig) → Buf (Elt Ideal) ℓ) (X : S2x256x512.Idx → EReal)

/-- Each device holds its plane of the whole array. -/
def Agrees : Prop := ∀ c : Dev Cert.KernelIdeal.nD,
  m ((c.tc : Thread Cert.KernelIdeal.nD Cert.KernelIdeal.τ).loc Cert.KernelIdeal.main_arg0)
    = Layout.blockN ⟨3, ![1, 256, 512]⟩ ⟨3, ![2, 256, 512]⟩ (Layout.meshBlock [2, 2, 4] ![[1], [], []] c) X

/-- Device `c`'s argument, read: plane `yOf c` of the whole array. -/
theorem argAt_eq (h : Agrees m X) (c : Dev Cert.KernelIdeal.nD) (y : ℕ) (i : Cert.KernelIdeal.S256x256.Idx) (k : Fin 2) (q : S256x512.Idx)
    (h0 : k.val = yOf c) (h1 : (q 0).val = (i 0).val) (h2 : (q 1).val = 256 * (y % 2) + (i 1).val) :
    argAt m c (spot y i) = X (ix3 k (q 0) (q 1)) := by
  unfold argAt Cert.IdlRun.arg
  rw [h c]
  refine congrArg X (funext fun a => Fin.ext ?_)
  rw [Layout.TilesN.idx_val]
  match a with
  | ⟨0, _⟩ =>
    show ((c.val / 4) % 2 * 1 + 0) * 1 + 0 = k.val
    rw [h0]; unfold yOf; omega
  | ⟨1, _⟩ =>
    show 0 * 256 + (i 0).val = (q 0).val
    omega
  | ⟨2, _⟩ =>
    show 0 * 512 + (256 * (y % 2) + (i 1).val) = (q 1).val
    omega

/-- Device `c`'s result is its column block of the reference's. -/
theorem out_eq (h : Agrees m X) (c : Dev Cert.KernelIdeal.nD) :
    outAt m c = Layout.blockN ⟨2, ![256, 256]⟩ ⟨2, ![256, 512]⟩ (Layout.meshBlock [2, 2, 4] ![[], [1]] c) (ref X) := by
  funext i
  rw [Cert.IdlRun.outAt_apply, Layout.blockN_apply, ref_apply]
  have hy := Cert.IdlRun.yOf_lt c
  have hp := Cert.IdlRun.yOf_pr c
  have q0 : ∀ h, ((Layout.TilesN.idx (S := ⟨2, ![256, 256]⟩) (T := ⟨2, ![256, 512]⟩) h (Layout.meshBlock [2, 2, 4] ![[], [1]] c) i) 0).val = (i 0).val := fun h => by
    show 0 * 256 + (i 0).val = _
    omega
  have q1 : ∀ h, ((Layout.TilesN.idx (S := ⟨2, ![256, 256]⟩) (T := ⟨2, ![256, 512]⟩) h (Layout.meshBlock [2, 2, 4] ![[], [1]] c) i) 1).val = 256 * (yOf c % 2) + (i 1).val := fun h => by
    show ((c.val / 4) % 2 * 1 + 0) * 256 + (i 1).val = _
    unfold yOf; omega
  rcases (by omega : yOf c = 0 ∨ yOf c = 1) with h0 | h0
  · rw [argAt_eq m X h c (yOf c) i 0 _ (by rw [h0]; rfl) (q0 _) (q1 _), argAt_eq m X h (pr c) (yOf c) i 1 _ (by rw [hp, h0]; rfl) (q0 _) (q1 _)]
  · rw [argAt_eq m X h c (yOf c) i 1 _ (by rw [h0]; rfl) (q0 _) (q1 _), argAt_eq m X h (pr c) (yOf c) i 0 _ (by rw [hp, h0]; rfl) (q0 _) (q1 _), add_comm]

end Cert.Equation
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Bit.Launch
public import proofs.«01_k».proof.Proof.Idl.Launch
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The kernel runs, its argument unchanged and every semaphore at zero. -/
theorem frame_kernel : Cert.quiescent_Kernel := fun m ρ _ =>
  (θ_run Cert.Kernel.defs _ _).mono (fun _ h => ⟨fun c => (h.1 c).2, h.2⟩) (Cert.BitRun.run_main (F := Bits) m ρ)

/-- So does its idealization. -/
theorem frame_ideal : Cert.quiescent_KernelIdeal := fun m ρ _ =>
  (θ_run Cert.KernelIdeal.defs _ _).mono (fun _ h => ⟨fun c => (h.1 c).2, h.2⟩) (Cert.IdlRun.run_main (F := Ideal) m ρ)

/-- So does the reference, which has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals each device ends with its column block of the reference's result. -/
theorem value : Cert.algebraic_KernelIdeal_ReferenceIdeal := fun m g m' g' _ hagree =>
  ⟨Cert.Equation.ref (m' (((0 : Dev Cert.ReferenceIdeal.nD).tc : Thread Cert.ReferenceIdeal.nD Cert.ReferenceIdeal.τ).loc Cert.ReferenceIdeal.main_arg0)),
    (θ_run Cert.KernelIdeal.defs _ _).mono (fun _ h c => ⟨(h.1 c).1.trans (Cert.Equation.out_eq m _ hagree c), (h.1 c).2⟩)
      (Cert.IdlRun.run_main (F := Ideal) m g),
    (θ_run Cert.ReferenceIdeal.defs _ _).mono (fun _ h => ⟨(h 0).1, (h 0).2⟩) (Cert.ReferenceIdeal.Value.run (F := Ideal) m' g')⟩

/-- The five claims together: three frames, the ideal program that of the kernel, and the value. -/
theorem claim : Cert.Claim := ⟨Cert.Kernel.Gen.facts, Cert.KernelIdeal.Gen.facts, Cert.ReferenceIdeal.Gen.facts,
  frame_kernel, frame_ideal, frame_reference, trivial, value⟩

end Cert.Proof

end
